-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S16x128x1024 : Shape := ⟨3, ![16, 128, 1024]⟩
abbrev S15x4 : Shape := ⟨2, ![15, 4]⟩
abbrev S_ : Shape := ⟨0, ![]⟩
abbrev S128x128 : Shape := ⟨2, ![128, 128]⟩
abbrev S128x1024 : Shape := ⟨2, ![128, 1024]⟩
abbrev S1x128x1024 : Shape := ⟨3, ![1, 128, 1024]⟩
abbrev S1x1 : Shape := ⟨2, ![1, 1]⟩
abbrev S1x128x256 : Shape := ⟨3, ![1, 128, 256]⟩
abbrev S128x256 : Shape := ⟨2, ![128, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S128x2048, .f32⟩
  | .local _ .vmem, ⟨0, _⟩ => ⟨S2048x128, .bf16⟩
  | .local _ .vmem, ⟨1, _⟩ => ⟨S128x2048, .bf16⟩
  | .local _ .vmem, ⟨2, _⟩ => ⟨S128x2048, .f32⟩
  | .local _ .vmem, ⟨3, _⟩ => ⟨S16x128x1024, .bf16⟩
  | .local _ .vmem, ⟨4, _⟩ => ⟨S16x128x1024, .bf16⟩
  | _, _ => ⟨S2048x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 243 → Bool
  | ⟨i, _⟩ => dmaSemScopedAt i

abbrev sig : RefSig :=
  (ofTc nBuf bufTy 1 243 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_10 : BitVec 32 := 16#32
  let v13 : BitVec 32 := Scalar.addi v2 c16_i32_10
  let c1_i32_11 : BitVec 32 := 1#32
  let v14 : BitVec 32 := Scalar.subi v13 c1_i32_11
  let c16_i32_12 : BitVec 32 := 16#32
  let v15 : BitVec 32 := Scalar.remsi v14 c16_i32_12
  let c128_i32 : BitVec 32 := 128#32
  let v16 : BitVec 32 := Scalar.muli v15 c128_i32
  let v17 : Index := Scalar.indexCast v16
  let c0 : Index := 0#32
  ![v17.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18 : BitVec 32 := 1#32
  let v27 : BitVec 32 := Scalar.addi v2 c1_i32_18
  let c16_i32_19 : BitVec 32 := 16#32
  let v28 : BitVec 32 := Scalar.remsi v27 c16_i32_19
  let c128_i32_20 : BitVec 32 := 128#32
  let v29 : BitVec 32 := Scalar.muli v28 c128_i32_20
  let v30 : Index := Scalar.indexCast v29
  let c0_21 : Index := 0#32
  ![v30.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_33 : BitVec 32 := 1#32
  let v40 : BitVec 32 := Scalar.muli v7 c1_i32_33
  let v41 : BitVec 32 := Scalar.addi c0_i32_34 v40
  v41.toNat
def k0_dev4 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_45 : BitVec 32 := 1#32
  let v50 : BitVec 32 := Scalar.muli v5 c1_i32_45
  let v51 : BitVec 32 := Scalar.addi c0_i32_46 v50
  v51.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_57 : BitVec 32 := 1#32
  let v60 : BitVec 32 := Scalar.muli v7 c1_i32_57
  let v61 : BitVec 32 := Scalar.addi c0_i32_58 v60
  v61.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_68 : BitVec 32 := 1#32
  let v70 : BitVec 32 := Scalar.muli v5 c1_i32_68
  let v71 : BitVec 32 := Scalar.addi c0_i32_69 v70
  v71.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_80 : BitVec 32 := 1#32
  let v80 : BitVec 32 := Scalar.muli v7 c1_i32_80
  let v81 : BitVec 32 := Scalar.addi c0_i32_81 v80
  v81.toNat
def k0_dev8 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_91 : BitVec 32 := 1#32
  let v90 : BitVec 32 := Scalar.muli v5 c1_i32_91
  let v91 : BitVec 32 := Scalar.addi c0_i32_92 v90
  v91.toNat
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_102 : BitVec 32 := 1#32
  let v100 : BitVec 32 := Scalar.muli v7 c1_i32_102
  let v101 : BitVec 32 := Scalar.addi c0_i32_103 v100
  v101.toNat
def k0_dev10 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_113 : BitVec 32 := 1#32
  let v110 : BitVec 32 := Scalar.muli v5 c1_i32_113
  let v111 : BitVec 32 := Scalar.addi c0_i32_114 v110
  v111.toNat
def k0_off3 (d0 : Dev nD) (c0_i32_120 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v120 : BitVec 32 := Scalar.addi v2 c32_i32
  let c2_i32_119 : BitVec 32 := 2#32
  let v121 : BitVec 32 := Scalar.subi v120 c2_i32_119
  let v122 : BitVec 32 := Scalar.subi v121 c0_i32_120
  let c16_i32_121 : BitVec 32 := 16#32
  let v123 : BitVec 32 := Scalar.remsi v122 c16_i32_121
  let c128_i32_122 : BitVec 32 := 128#32
  let v124 : BitVec 32 := Scalar.muli v123 c128_i32_122
  let v125 : Index := Scalar.indexCast v124
  let c0_123 : Index := 0#32
  ![v125.toNat, 0]
def k0_off4 (d0 : Dev nD) (c0_i32_128 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_127 : BitVec 32 := 2#32
  let v132 : BitVec 32 := Scalar.addi v2 c2_i32_127
  let v133 : BitVec 32 := Scalar.addi v132 c0_i32_128
  let c16_i32_129 : BitVec 32 := 16#32
  let v134 : BitVec 32 := Scalar.remsi v133 c16_i32_129
  let c128_i32_130 : BitVec 32 := 128#32
  let v135 : BitVec 32 := Scalar.muli v134 c128_i32_130
  let v136 : Index := Scalar.indexCast v135
  let c0_131 : Index := 0#32
  ![v136.toNat, 0]
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_158 : BitVec 32 := 1#32
  let v158 : BitVec 32 := Scalar.muli v7 c1_i32_158
  let v159 : BitVec 32 := Scalar.addi c0_i32_159 v158
  v159.toNat
def k0_dev12 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_188 : BitVec 32 := 1#32
  let v183 : BitVec 32 := Scalar.muli v5 c1_i32_188
  let v184 : BitVec 32 := Scalar.addi c0_i32_189 v183
  v184.toNat
def k0_dev13 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_217 : BitVec 32 := 1#32
  let v208 : BitVec 32 := Scalar.muli v7 c1_i32_217
  let v209 : BitVec 32 := Scalar.addi c0_i32_218 v208
  v209.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_247 : BitVec 32 := 1#32
  let v233 : BitVec 32 := Scalar.muli v5 c1_i32_247
  let v234 : BitVec 32 := Scalar.addi c0_i32_248 v233
  v234.toNat
def k0_dev15 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_276 : BitVec 32 := 1#32
  let v258 : BitVec 32 := Scalar.muli v7 c1_i32_276
  let v259 : BitVec 32 := Scalar.addi c0_i32_277 v258
  v259.toNat
def k0_dev16 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_306 : BitVec 32 := 1#32
  let v283 : BitVec 32 := Scalar.muli v5 c1_i32_306
  let v284 : BitVec 32 := Scalar.addi c0_i32_307 v283
  v284.toNat
def k0_dev17 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_335 : BitVec 32 := 1#32
  let v308 : BitVec 32 := Scalar.muli v7 c1_i32_335
  let v309 : BitVec 32 := Scalar.addi c0_i32_336 v308
  v309.toNat
def k0_dev18 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_365 : BitVec 32 := 1#32
  let v333 : BitVec 32 := Scalar.muli v5 c1_i32_365
  let v334 : BitVec 32 := Scalar.addi c0_i32_366 v333
  v334.toNat
def k0_dev19 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_411 : BitVec 32 := 1#32
  let v381 : BitVec 32 := Scalar.muli v7 c1_i32_411
  let v382 : BitVec 32 := Scalar.addi c0_i32_412 v381
  v382.toNat
def k0_dev20 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_441 : BitVec 32 := 1#32
  let v406 : BitVec 32 := Scalar.muli v5 c1_i32_441
  let v407 : BitVec 32 := Scalar.addi c0_i32_442 v406
  v407.toNat
def k0_dev21 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_471 : BitVec 32 := 1#32
  let v431 : BitVec 32 := Scalar.muli v7 c1_i32_471
  let v432 : BitVec 32 := Scalar.addi c0_i32_472 v431
  v432.toNat
def k0_dev22 (d0 : Dev nD) : Nat :=
  let c0_i32_502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_501 : BitVec 32 := 1#32
  let v456 : BitVec 32 := Scalar.muli v5 c1_i32_501
  let v457 : BitVec 32 := Scalar.addi c0_i32_502 v456
  v457.toNat
def k0_dev23 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_531 : BitVec 32 := 1#32
  let v481 : BitVec 32 := Scalar.muli v7 c1_i32_531
  let v482 : BitVec 32 := Scalar.addi c0_i32_532 v481
  v482.toNat
def k0_dev24 (d0 : Dev nD) : Nat :=
  let c0_i32_562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_561 : BitVec 32 := 1#32
  let v506 : BitVec 32 := Scalar.muli v5 c1_i32_561
  let v507 : BitVec 32 := Scalar.addi c0_i32_562 v506
  v507.toNat
def k0_dev25 (d0 : Dev nD) : Nat :=
  let c0_i32_592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_591 : BitVec 32 := 1#32
  let v531 : BitVec 32 := Scalar.muli v7 c1_i32_591
  let v532 : BitVec 32 := Scalar.addi c0_i32_592 v531
  v532.toNat
def k0_dev26 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_621 : BitVec 32 := 1#32
  let v556 : BitVec 32 := Scalar.muli v5 c1_i32_621
  let v557 : BitVec 32 := Scalar.addi c0_i32_622 v556
  v557.toNat
def k0_dev27 (d0 : Dev nD) : Nat :=
  let c0_i32_667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_666 : BitVec 32 := 1#32
  let v604 : BitVec 32 := Scalar.muli v7 c1_i32_666
  let v605 : BitVec 32 := Scalar.addi c0_i32_667 v604
  v605.toNat
def k0_dev28 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_696 : BitVec 32 := 1#32
  let v629 : BitVec 32 := Scalar.muli v5 c1_i32_696
  let v630 : BitVec 32 := Scalar.addi c0_i32_697 v629
  v630.toNat
def k0_dev29 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_726 : BitVec 32 := 1#32
  let v654 : BitVec 32 := Scalar.muli v7 c1_i32_726
  let v655 : BitVec 32 := Scalar.addi c0_i32_727 v654
  v655.toNat
def k0_dev30 (d0 : Dev nD) : Nat :=
  let c0_i32_757 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_756 : BitVec 32 := 1#32
  let v679 : BitVec 32 := Scalar.muli v5 c1_i32_756
  let v680 : BitVec 32 := Scalar.addi c0_i32_757 v679
  v680.toNat
def k0_dev31 (d0 : Dev nD) : Nat :=
  let c0_i32_787 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_786 : BitVec 32 := 1#32
  let v704 : BitVec 32 := Scalar.muli v7 c1_i32_786
  let v705 : BitVec 32 := Scalar.addi c0_i32_787 v704
  v705.toNat
def k0_dev32 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_816 : BitVec 32 := 1#32
  let v729 : BitVec 32 := Scalar.muli v5 c1_i32_816
  let v730 : BitVec 32 := Scalar.addi c0_i32_817 v729
  v730.toNat
def k0_dev33 (d0 : Dev nD) : Nat :=
  let c0_i32_847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_846 : BitVec 32 := 1#32
  let v754 : BitVec 32 := Scalar.muli v7 c1_i32_846
  let v755 : BitVec 32 := Scalar.addi c0_i32_847 v754
  v755.toNat
def k0_dev34 (d0 : Dev nD) : Nat :=
  let c0_i32_877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_876 : BitVec 32 := 1#32
  let v779 : BitVec 32 := Scalar.muli v5 c1_i32_876
  let v780 : BitVec 32 := Scalar.addi c0_i32_877 v779
  v780.toNat
def k0_dev35 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_921 : BitVec 32 := 1#32
  let v827 : BitVec 32 := Scalar.muli v7 c1_i32_921
  let v828 : BitVec 32 := Scalar.addi c0_i32_922 v827
  v828.toNat
def k0_dev36 (d0 : Dev nD) : Nat :=
  let c0_i32_952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_951 : BitVec 32 := 1#32
  let v852 : BitVec 32 := Scalar.muli v5 c1_i32_951
  let v853 : BitVec 32 := Scalar.addi c0_i32_952 v852
  v853.toNat
def k0_dev37 (d0 : Dev nD) : Nat :=
  let c0_i32_982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_981 : BitVec 32 := 1#32
  let v877 : BitVec 32 := Scalar.muli v7 c1_i32_981
  let v878 : BitVec 32 := Scalar.addi c0_i32_982 v877
  v878.toNat
def k0_dev38 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1011 : BitVec 32 := 1#32
  let v902 : BitVec 32 := Scalar.muli v5 c1_i32_1011
  let v903 : BitVec 32 := Scalar.addi c0_i32_1012 v902
  v903.toNat
def k0_dev39 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1041 : BitVec 32 := 1#32
  let v927 : BitVec 32 := Scalar.muli v7 c1_i32_1041
  let v928 : BitVec 32 := Scalar.addi c0_i32_1042 v927
  v928.toNat
def k0_dev40 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1071 : BitVec 32 := 1#32
  let v952 : BitVec 32 := Scalar.muli v5 c1_i32_1071
  let v953 : BitVec 32 := Scalar.addi c0_i32_1072 v952
  v953.toNat
def k0_dev41 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1101 : BitVec 32 := 1#32
  let v977 : BitVec 32 := Scalar.muli v7 c1_i32_1101
  let v978 : BitVec 32 := Scalar.addi c0_i32_1102 v977
  v978.toNat
def k0_dev42 (d0 : Dev nD) : Nat :=
  let c0_i32_1132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1131 : BitVec 32 := 1#32
  let v1002 : BitVec 32 := Scalar.muli v5 c1_i32_1131
  let v1003 : BitVec 32 := Scalar.addi c0_i32_1132 v1002
  v1003.toNat
def k0_dev43 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1176 : BitVec 32 := 1#32
  let v1050 : BitVec 32 := Scalar.muli v7 c1_i32_1176
  let v1051 : BitVec 32 := Scalar.addi c0_i32_1177 v1050
  v1051.toNat
def k0_dev44 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1206 : BitVec 32 := 1#32
  let v1075 : BitVec 32 := Scalar.muli v5 c1_i32_1206
  let v1076 : BitVec 32 := Scalar.addi c0_i32_1207 v1075
  v1076.toNat
def k0_dev45 (d0 : Dev nD) : Nat :=
  let c0_i32_1237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1236 : BitVec 32 := 1#32
  let v1100 : BitVec 32 := Scalar.muli v7 c1_i32_1236
  let v1101 : BitVec 32 := Scalar.addi c0_i32_1237 v1100
  v1101.toNat
def k0_dev46 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1266 : BitVec 32 := 1#32
  let v1125 : BitVec 32 := Scalar.muli v5 c1_i32_1266
  let v1126 : BitVec 32 := Scalar.addi c0_i32_1267 v1125
  v1126.toNat
def k0_dev47 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1296 : BitVec 32 := 1#32
  let v1150 : BitVec 32 := Scalar.muli v7 c1_i32_1296
  let v1151 : BitVec 32 := Scalar.addi c0_i32_1297 v1150
  v1151.toNat
def k0_dev48 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1326 : BitVec 32 := 1#32
  let v1175 : BitVec 32 := Scalar.muli v5 c1_i32_1326
  let v1176 : BitVec 32 := Scalar.addi c0_i32_1327 v1175
  v1176.toNat
def k0_dev49 (d0 : Dev nD) : Nat :=
  let c0_i32_1357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1356 : BitVec 32 := 1#32
  let v1200 : BitVec 32 := Scalar.muli v7 c1_i32_1356
  let v1201 : BitVec 32 := Scalar.addi c0_i32_1357 v1200
  v1201.toNat
def k0_dev50 (d0 : Dev nD) : Nat :=
  let c0_i32_1387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1386 : BitVec 32 := 1#32
  let v1225 : BitVec 32 := Scalar.muli v5 c1_i32_1386
  let v1226 : BitVec 32 := Scalar.addi c0_i32_1387 v1225
  v1226.toNat
def k0_dev51 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1431 : BitVec 32 := 1#32
  let v1273 : BitVec 32 := Scalar.muli v7 c1_i32_1431
  let v1274 : BitVec 32 := Scalar.addi c0_i32_1432 v1273
  v1274.toNat
def k0_dev52 (d0 : Dev nD) : Nat :=
  let c0_i32_1462 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1461 : BitVec 32 := 1#32
  let v1298 : BitVec 32 := Scalar.muli v5 c1_i32_1461
  let v1299 : BitVec 32 := Scalar.addi c0_i32_1462 v1298
  v1299.toNat
def k0_dev53 (d0 : Dev nD) : Nat :=
  let c0_i32_1492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1491 : BitVec 32 := 1#32
  let v1323 : BitVec 32 := Scalar.muli v7 c1_i32_1491
  let v1324 : BitVec 32 := Scalar.addi c0_i32_1492 v1323
  v1324.toNat
def k0_dev54 (d0 : Dev nD) : Nat :=
  let c0_i32_1522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1521 : BitVec 32 := 1#32
  let v1348 : BitVec 32 := Scalar.muli v5 c1_i32_1521
  let v1349 : BitVec 32 := Scalar.addi c0_i32_1522 v1348
  v1349.toNat
def k0_dev55 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1551 : BitVec 32 := 1#32
  let v1373 : BitVec 32 := Scalar.muli v7 c1_i32_1551
  let v1374 : BitVec 32 := Scalar.addi c0_i32_1552 v1373
  v1374.toNat
def k0_dev56 (d0 : Dev nD) : Nat :=
  let c0_i32_1582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1581 : BitVec 32 := 1#32
  let v1398 : BitVec 32 := Scalar.muli v5 c1_i32_1581
  let v1399 : BitVec 32 := Scalar.addi c0_i32_1582 v1398
  v1399.toNat
def k0_dev57 (d0 : Dev nD) : Nat :=
  let c0_i32_1612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1611 : BitVec 32 := 1#32
  let v1423 : BitVec 32 := Scalar.muli v7 c1_i32_1611
  let v1424 : BitVec 32 := Scalar.addi c0_i32_1612 v1423
  v1424.toNat
def k0_dev58 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1641 : BitVec 32 := 1#32
  let v1448 : BitVec 32 := Scalar.muli v5 c1_i32_1641
  let v1449 : BitVec 32 := Scalar.addi c0_i32_1642 v1448
  v1449.toNat
def k0_dev59 (d0 : Dev nD) : Nat :=
  let c0_i32_1687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1686 : BitVec 32 := 1#32
  let v1496 : BitVec 32 := Scalar.muli v7 c1_i32_1686
  let v1497 : BitVec 32 := Scalar.addi c0_i32_1687 v1496
  v1497.toNat
def k0_dev60 (d0 : Dev nD) : Nat :=
  let c0_i32_1717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1716 : BitVec 32 := 1#32
  let v1521 : BitVec 32 := Scalar.muli v5 c1_i32_1716
  let v1522 : BitVec 32 := Scalar.addi c0_i32_1717 v1521
  v1522.toNat
def k0_dev61 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1746 : BitVec 32 := 1#32
  let v1546 : BitVec 32 := Scalar.muli v7 c1_i32_1746
  let v1547 : BitVec 32 := Scalar.addi c0_i32_1747 v1546
  v1547.toNat
def k0_dev62 (d0 : Dev nD) : Nat :=
  let c0_i32_1777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1776 : BitVec 32 := 1#32
  let v1571 : BitVec 32 := Scalar.muli v5 c1_i32_1776
  let v1572 : BitVec 32 := Scalar.addi c0_i32_1777 v1571
  v1572.toNat
def k0_dev63 (d0 : Dev nD) : Nat :=
  let c0_i32_1807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1806 : BitVec 32 := 1#32
  let v1596 : BitVec 32 := Scalar.muli v7 c1_i32_1806
  let v1597 : BitVec 32 := Scalar.addi c0_i32_1807 v1596
  v1597.toNat
def k0_dev64 (d0 : Dev nD) : Nat :=
  let c0_i32_1837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1836 : BitVec 32 := 1#32
  let v1621 : BitVec 32 := Scalar.muli v5 c1_i32_1836
  let v1622 : BitVec 32 := Scalar.addi c0_i32_1837 v1621
  v1622.toNat
def k0_dev65 (d0 : Dev nD) : Nat :=
  let c0_i32_1867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1866 : BitVec 32 := 1#32
  let v1646 : BitVec 32 := Scalar.muli v7 c1_i32_1866
  let v1647 : BitVec 32 := Scalar.addi c0_i32_1867 v1646
  v1647.toNat
def k0_dev66 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1896 : BitVec 32 := 1#32
  let v1671 : BitVec 32 := Scalar.muli v5 c1_i32_1896
  let v1672 : BitVec 32 := Scalar.addi c0_i32_1897 v1671
  v1672.toNat
def k0_dev67 (d0 : Dev nD) : Nat :=
  let c0_i32_1942 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1941 : BitVec 32 := 1#32
  let v1719 : BitVec 32 := Scalar.muli v7 c1_i32_1941
  let v1720 : BitVec 32 := Scalar.addi c0_i32_1942 v1719
  v1720.toNat
def k0_dev68 (d0 : Dev nD) : Nat :=
  let c0_i32_1972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1971 : BitVec 32 := 1#32
  let v1744 : BitVec 32 := Scalar.muli v5 c1_i32_1971
  let v1745 : BitVec 32 := Scalar.addi c0_i32_1972 v1744
  v1745.toNat
def k0_dev69 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2001 : BitVec 32 := 1#32
  let v1769 : BitVec 32 := Scalar.muli v7 c1_i32_2001
  let v1770 : BitVec 32 := Scalar.addi c0_i32_2002 v1769
  v1770.toNat
def k0_dev70 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2031 : BitVec 32 := 1#32
  let v1794 : BitVec 32 := Scalar.muli v5 c1_i32_2031
  let v1795 : BitVec 32 := Scalar.addi c0_i32_2032 v1794
  v1795.toNat
def k0_dev71 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2061 : BitVec 32 := 1#32
  let v1819 : BitVec 32 := Scalar.muli v7 c1_i32_2061
  let v1820 : BitVec 32 := Scalar.addi c0_i32_2062 v1819
  v1820.toNat
def k0_dev72 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2091 : BitVec 32 := 1#32
  let v1844 : BitVec 32 := Scalar.muli v5 c1_i32_2091
  let v1845 : BitVec 32 := Scalar.addi c0_i32_2092 v1844
  v1845.toNat
def k0_dev73 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2121 : BitVec 32 := 1#32
  let v1869 : BitVec 32 := Scalar.muli v7 c1_i32_2121
  let v1870 : BitVec 32 := Scalar.addi c0_i32_2122 v1869
  v1870.toNat
def k0_dev74 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2151 : BitVec 32 := 1#32
  let v1894 : BitVec 32 := Scalar.muli v5 c1_i32_2151
  let v1895 : BitVec 32 := Scalar.addi c0_i32_2152 v1894
  v1895.toNat
def k0_dev75 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2196 : BitVec 32 := 1#32
  let v1942 : BitVec 32 := Scalar.muli v7 c1_i32_2196
  let v1943 : BitVec 32 := Scalar.addi c0_i32_2197 v1942
  v1943.toNat
def k0_dev76 (d0 : Dev nD) : Nat :=
  let c0_i32_2227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2226 : BitVec 32 := 1#32
  let v1967 : BitVec 32 := Scalar.muli v5 c1_i32_2226
  let v1968 : BitVec 32 := Scalar.addi c0_i32_2227 v1967
  v1968.toNat
def k0_dev77 (d0 : Dev nD) : Nat :=
  let c0_i32_2257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2256 : BitVec 32 := 1#32
  let v1992 : BitVec 32 := Scalar.muli v7 c1_i32_2256
  let v1993 : BitVec 32 := Scalar.addi c0_i32_2257 v1992
  v1993.toNat
def k0_dev78 (d0 : Dev nD) : Nat :=
  let c0_i32_2287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2286 : BitVec 32 := 1#32
  let v2017 : BitVec 32 := Scalar.muli v5 c1_i32_2286
  let v2018 : BitVec 32 := Scalar.addi c0_i32_2287 v2017
  v2018.toNat
def k0_dev79 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2316 : BitVec 32 := 1#32
  let v2042 : BitVec 32 := Scalar.muli v7 c1_i32_2316
  let v2043 : BitVec 32 := Scalar.addi c0_i32_2317 v2042
  v2043.toNat
def k0_dev80 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2346 : BitVec 32 := 1#32
  let v2067 : BitVec 32 := Scalar.muli v5 c1_i32_2346
  let v2068 : BitVec 32 := Scalar.addi c0_i32_2347 v2067
  v2068.toNat
def k0_dev81 (d0 : Dev nD) : Nat :=
  let c0_i32_2377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2376 : BitVec 32 := 1#32
  let v2092 : BitVec 32 := Scalar.muli v7 c1_i32_2376
  let v2093 : BitVec 32 := Scalar.addi c0_i32_2377 v2092
  v2093.toNat
def k0_dev82 (d0 : Dev nD) : Nat :=
  let c0_i32_2407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2406 : BitVec 32 := 1#32
  let v2117 : BitVec 32 := Scalar.muli v5 c1_i32_2406
  let v2118 : BitVec 32 := Scalar.addi c0_i32_2407 v2117
  v2118.toNat
def k0_dev83 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2451 : BitVec 32 := 1#32
  let v2165 : BitVec 32 := Scalar.muli v7 c1_i32_2451
  let v2166 : BitVec 32 := Scalar.addi c0_i32_2452 v2165
  v2166.toNat
def k0_dev84 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2481 : BitVec 32 := 1#32
  let v2190 : BitVec 32 := Scalar.muli v5 c1_i32_2481
  let v2191 : BitVec 32 := Scalar.addi c0_i32_2482 v2190
  v2191.toNat
def k0_dev85 (d0 : Dev nD) : Nat :=
  let c0_i32_2512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2511 : BitVec 32 := 1#32
  let v2215 : BitVec 32 := Scalar.muli v7 c1_i32_2511
  let v2216 : BitVec 32 := Scalar.addi c0_i32_2512 v2215
  v2216.toNat
def k0_dev86 (d0 : Dev nD) : Nat :=
  let c0_i32_2542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2541 : BitVec 32 := 1#32
  let v2240 : BitVec 32 := Scalar.muli v5 c1_i32_2541
  let v2241 : BitVec 32 := Scalar.addi c0_i32_2542 v2240
  v2241.toNat
def k0_dev87 (d0 : Dev nD) : Nat :=
  let c0_i32_2572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2571 : BitVec 32 := 1#32
  let v2265 : BitVec 32 := Scalar.muli v7 c1_i32_2571
  let v2266 : BitVec 32 := Scalar.addi c0_i32_2572 v2265
  v2266.toNat
def k0_dev88 (d0 : Dev nD) : Nat :=
  let c0_i32_2602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2601 : BitVec 32 := 1#32
  let v2290 : BitVec 32 := Scalar.muli v5 c1_i32_2601
  let v2291 : BitVec 32 := Scalar.addi c0_i32_2602 v2290
  v2291.toNat
def k0_dev89 (d0 : Dev nD) : Nat :=
  let c0_i32_2632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2631 : BitVec 32 := 1#32
  let v2315 : BitVec 32 := Scalar.muli v7 c1_i32_2631
  let v2316 : BitVec 32 := Scalar.addi c0_i32_2632 v2315
  v2316.toNat
def k0_dev90 (d0 : Dev nD) : Nat :=
  let c0_i32_2662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2661 : BitVec 32 := 1#32
  let v2340 : BitVec 32 := Scalar.muli v5 c1_i32_2661
  let v2341 : BitVec 32 := Scalar.addi c0_i32_2662 v2340
  v2341.toNat
def k0_dev91 (d0 : Dev nD) : Nat :=
  let c0_i32_2707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2706 : BitVec 32 := 1#32
  let v2388 : BitVec 32 := Scalar.muli v7 c1_i32_2706
  let v2389 : BitVec 32 := Scalar.addi c0_i32_2707 v2388
  v2389.toNat
def k0_dev92 (d0 : Dev nD) : Nat :=
  let c0_i32_2737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2736 : BitVec 32 := 1#32
  let v2413 : BitVec 32 := Scalar.muli v5 c1_i32_2736
  let v2414 : BitVec 32 := Scalar.addi c0_i32_2737 v2413
  v2414.toNat
def k0_dev93 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2766 : BitVec 32 := 1#32
  let v2438 : BitVec 32 := Scalar.muli v7 c1_i32_2766
  let v2439 : BitVec 32 := Scalar.addi c0_i32_2767 v2438
  v2439.toNat
def k0_dev94 (d0 : Dev nD) : Nat :=
  let c0_i32_2797 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2796 : BitVec 32 := 1#32
  let v2463 : BitVec 32 := Scalar.muli v5 c1_i32_2796
  let v2464 : BitVec 32 := Scalar.addi c0_i32_2797 v2463
  v2464.toNat
def k0_dev95 (d0 : Dev nD) : Nat :=
  let c0_i32_2827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2826 : BitVec 32 := 1#32
  let v2488 : BitVec 32 := Scalar.muli v7 c1_i32_2826
  let v2489 : BitVec 32 := Scalar.addi c0_i32_2827 v2488
  v2489.toNat
def k0_dev96 (d0 : Dev nD) : Nat :=
  let c0_i32_2857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2856 : BitVec 32 := 1#32
  let v2513 : BitVec 32 := Scalar.muli v5 c1_i32_2856
  let v2514 : BitVec 32 := Scalar.addi c0_i32_2857 v2513
  v2514.toNat
def k0_dev97 (d0 : Dev nD) : Nat :=
  let c0_i32_2887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2886 : BitVec 32 := 1#32
  let v2538 : BitVec 32 := Scalar.muli v7 c1_i32_2886
  let v2539 : BitVec 32 := Scalar.addi c0_i32_2887 v2538
  v2539.toNat
def k0_dev98 (d0 : Dev nD) : Nat :=
  let c0_i32_2917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2916 : BitVec 32 := 1#32
  let v2563 : BitVec 32 := Scalar.muli v5 c1_i32_2916
  let v2564 : BitVec 32 := Scalar.addi c0_i32_2917 v2563
  v2564.toNat
def k0_dev99 (d0 : Dev nD) : Nat :=
  let c0_i32_2962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2961 : BitVec 32 := 1#32
  let v2611 : BitVec 32 := Scalar.muli v7 c1_i32_2961
  let v2612 : BitVec 32 := Scalar.addi c0_i32_2962 v2611
  v2612.toNat
def k0_dev100 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2991 : BitVec 32 := 1#32
  let v2636 : BitVec 32 := Scalar.muli v5 c1_i32_2991
  let v2637 : BitVec 32 := Scalar.addi c0_i32_2992 v2636
  v2637.toNat
def k0_dev101 (d0 : Dev nD) : Nat :=
  let c0_i32_3022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3021 : BitVec 32 := 1#32
  let v2661 : BitVec 32 := Scalar.muli v7 c1_i32_3021
  let v2662 : BitVec 32 := Scalar.addi c0_i32_3022 v2661
  v2662.toNat
def k0_dev102 (d0 : Dev nD) : Nat :=
  let c0_i32_3052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3051 : BitVec 32 := 1#32
  let v2686 : BitVec 32 := Scalar.muli v5 c1_i32_3051
  let v2687 : BitVec 32 := Scalar.addi c0_i32_3052 v2686
  v2687.toNat
def k0_dev103 (d0 : Dev nD) : Nat :=
  let c0_i32_3082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3081 : BitVec 32 := 1#32
  let v2711 : BitVec 32 := Scalar.muli v7 c1_i32_3081
  let v2712 : BitVec 32 := Scalar.addi c0_i32_3082 v2711
  v2712.toNat
def k0_dev104 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3111 : BitVec 32 := 1#32
  let v2736 : BitVec 32 := Scalar.muli v5 c1_i32_3111
  let v2737 : BitVec 32 := Scalar.addi c0_i32_3112 v2736
  v2737.toNat
def k0_dev105 (d0 : Dev nD) : Nat :=
  let c0_i32_3142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3141 : BitVec 32 := 1#32
  let v2761 : BitVec 32 := Scalar.muli v7 c1_i32_3141
  let v2762 : BitVec 32 := Scalar.addi c0_i32_3142 v2761
  v2762.toNat
def k0_dev106 (d0 : Dev nD) : Nat :=
  let c0_i32_3172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3171 : BitVec 32 := 1#32
  let v2786 : BitVec 32 := Scalar.muli v5 c1_i32_3171
  let v2787 : BitVec 32 := Scalar.addi c0_i32_3172 v2786
  v2787.toNat
def k0_dev107 (d0 : Dev nD) : Nat :=
  let c0_i32_3217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3216 : BitVec 32 := 1#32
  let v2834 : BitVec 32 := Scalar.muli v7 c1_i32_3216
  let v2835 : BitVec 32 := Scalar.addi c0_i32_3217 v2834
  v2835.toNat
def k0_dev108 (d0 : Dev nD) : Nat :=
  let c0_i32_3247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3246 : BitVec 32 := 1#32
  let v2859 : BitVec 32 := Scalar.muli v5 c1_i32_3246
  let v2860 : BitVec 32 := Scalar.addi c0_i32_3247 v2859
  v2860.toNat
def k0_dev109 (d0 : Dev nD) : Nat :=
  let c0_i32_3277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3276 : BitVec 32 := 1#32
  let v2884 : BitVec 32 := Scalar.muli v7 c1_i32_3276
  let v2885 : BitVec 32 := Scalar.addi c0_i32_3277 v2884
  v2885.toNat
def k0_dev110 (d0 : Dev nD) : Nat :=
  let c0_i32_3307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3306 : BitVec 32 := 1#32
  let v2909 : BitVec 32 := Scalar.muli v5 c1_i32_3306
  let v2910 : BitVec 32 := Scalar.addi c0_i32_3307 v2909
  v2910.toNat
def k0_dev111 (d0 : Dev nD) : Nat :=
  let c0_i32_3337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3336 : BitVec 32 := 1#32
  let v2934 : BitVec 32 := Scalar.muli v7 c1_i32_3336
  let v2935 : BitVec 32 := Scalar.addi c0_i32_3337 v2934
  v2935.toNat
def k0_dev112 (d0 : Dev nD) : Nat :=
  let c0_i32_3367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3366 : BitVec 32 := 1#32
  let v2959 : BitVec 32 := Scalar.muli v5 c1_i32_3366
  let v2960 : BitVec 32 := Scalar.addi c0_i32_3367 v2959
  v2960.toNat
def k0_dev113 (d0 : Dev nD) : Nat :=
  let c0_i32_3397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3396 : BitVec 32 := 1#32
  let v2984 : BitVec 32 := Scalar.muli v7 c1_i32_3396
  let v2985 : BitVec 32 := Scalar.addi c0_i32_3397 v2984
  v2985.toNat
def k0_dev114 (d0 : Dev nD) : Nat :=
  let c0_i32_3427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3426 : BitVec 32 := 1#32
  let v3009 : BitVec 32 := Scalar.muli v5 c1_i32_3426
  let v3010 : BitVec 32 := Scalar.addi c0_i32_3427 v3009
  v3010.toNat
def k0_dev115 (d0 : Dev nD) : Nat :=
  let c0_i32_3472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3471 : BitVec 32 := 1#32
  let v3057 : BitVec 32 := Scalar.muli v7 c1_i32_3471
  let v3058 : BitVec 32 := Scalar.addi c0_i32_3472 v3057
  v3058.toNat
def k0_dev116 (d0 : Dev nD) : Nat :=
  let c0_i32_3502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3501 : BitVec 32 := 1#32
  let v3082 : BitVec 32 := Scalar.muli v5 c1_i32_3501
  let v3083 : BitVec 32 := Scalar.addi c0_i32_3502 v3082
  v3083.toNat
def k0_dev117 (d0 : Dev nD) : Nat :=
  let c0_i32_3532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3531 : BitVec 32 := 1#32
  let v3107 : BitVec 32 := Scalar.muli v7 c1_i32_3531
  let v3108 : BitVec 32 := Scalar.addi c0_i32_3532 v3107
  v3108.toNat
def k0_dev118 (d0 : Dev nD) : Nat :=
  let c0_i32_3562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3561 : BitVec 32 := 1#32
  let v3132 : BitVec 32 := Scalar.muli v5 c1_i32_3561
  let v3133 : BitVec 32 := Scalar.addi c0_i32_3562 v3132
  v3133.toNat
def k0_dev119 (d0 : Dev nD) : Nat :=
  let c0_i32_3592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3591 : BitVec 32 := 1#32
  let v3157 : BitVec 32 := Scalar.muli v7 c1_i32_3591
  let v3158 : BitVec 32 := Scalar.addi c0_i32_3592 v3157
  v3158.toNat
def k0_dev120 (d0 : Dev nD) : Nat :=
  let c0_i32_3622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3621 : BitVec 32 := 1#32
  let v3182 : BitVec 32 := Scalar.muli v5 c1_i32_3621
  let v3183 : BitVec 32 := Scalar.addi c0_i32_3622 v3182
  v3183.toNat
def k0_dev121 (d0 : Dev nD) : Nat :=
  let c0_i32_3652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3651 : BitVec 32 := 1#32
  let v3207 : BitVec 32 := Scalar.muli v7 c1_i32_3651
  let v3208 : BitVec 32 := Scalar.addi c0_i32_3652 v3207
  v3208.toNat
def k0_dev122 (d0 : Dev nD) : Nat :=
  let c0_i32_3682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3681 : BitVec 32 := 1#32
  let v3232 : BitVec 32 := Scalar.muli v5 c1_i32_3681
  let v3233 : BitVec 32 := Scalar.addi c0_i32_3682 v3232
  v3233.toNat
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Flow.lean ====
/-
# The kernel as a loop nest

The printed kernel is fully unrolled: 15 ring steps of four column blocks in two directions. This module writes the same
program down once per kind of operation, with the ring step, the column block and the direction as parameters, and proves
(by unfolding alone) that the printed body is that loop nest (`body_eq`). Everything later is stated about the loop nest.

Directions are Booleans: `true` travels to the right neighbour (buffer `cc0_scratch0`), `false` to the left one
(buffer `cc0_scratch1`).
-/
module

public import proofs.«01_k».proof.Proof.Gen.KernelIdeal
public import Idealize.ShloMosaic.Lib.Pipeline.Regions

@[expose] public section

noncomputable section

namespace Cert.KernelIdeal.Flow

open Cert.KernelIdeal Cert.KernelIdeal.Gen
open Idealize.ShloMosaic Idealize.SL.Sem

variable {F : FTy → Type} [FloatOps F]

/-- A program of the kernel. -/
abbrev KP (F : FTy → Type) [FloatOps F] (α : Type) := Prog (TpuEff nD τ sig (Elt F) Λ₀ .tc) α

/-! ## The buffers, the slots, the semaphores -/

abbrev xM : Memref sig .tc .vmem S2048x128 .bf16 := Memref.whole cc0_stg0_0
abbrev wM : Memref sig .tc .vmem S128x2048 .bf16 := Memref.whole cc0_stg1_0
abbrev oM : Memref sig .tc .vmem S128x2048 .f32 := Memref.whole cc0_stg2_0

/-- The communication buffer of a direction, sixteen slots of 128 by 1024. -/
abbrev commRef : Bool → Ref sig .tc
  | true => cc0_scratch0
  | false => cc0_scratch1
theorem commRef_space (d : Bool) : (commRef d).space = .vmem := by cases d <;> rfl
abbrev comm : Bool → Memref sig .tc .vmem S16x128x1024 .bf16
  | true => Memref.whole cc0_scratch0
  | false => Memref.whole cc0_scratch1
theorem comm_whole : ∀ d, (comm d).IsWhole
  | true => Memref.isWhole_whole _
  | false => Memref.isWhole_whole _

/-- The rectangle of slot `k`, column block `j` in a communication buffer. -/
theorem slot_inb : ∀ (k : Fin 16) (j : Fin 4), ∀ a, (![k.val, 0, 256 * j.val] : Fin 3 → Nat) a + S1x128x256.size a ≤ S16x128x1024.size a := by decide
abbrev slotRect (k : Fin 16) (j : Fin 4) : Rect S16x128x1024 := Rect.unit (s := S16x128x1024) ![k.val, 0, 256 * j.val] S1x128x256.size (slot_inb k j)
theorem slot_words : ∀ (k : Fin 16) (j : Fin 4), (slotRect k j).WholeWords (EltTy.packing .bf16) := by decide
theorem slot_packed : ∀ (k : Fin 16) (j : Fin 4), (slotRect k j).PackedRows (EltTy.packing .bf16) := by decide

/-- Slot `k`, column block `j` of a direction's communication buffer, as a 128 by 256 view. -/
abbrev slot (d : Bool) (k : Fin 16) (j : Fin 4) : Memref sig .tc .vmem S128x256 .bf16 :=
  ((comm d).slice (slotRect k j) (fun _ => rfl)).squeeze S128x256 squeezes_S1x128x256_S128x256
theorem slot_exact (d : Bool) (k : Fin 16) (j : Fin 4) : (slot d k j).view.WordExact :=
  ((comm_whole d).wordExact_slice rfl _ (slot_words k j)).reshape _ _

theorem sem_inb : ∀ (s : Fin 15) (j : Fin 4), ∀ a, (![s.val, j.val] : Fin 2 → Nat) a + S1x1.size a ≤ S15x4.size a := by decide
/-- Entry `(s, j)` of an array of semaphores. -/
abbrev semAt (A : DmaSems sig S15x4) (s : Fin 15) (j : Fin 4) : DmaSem sig :=
  ((A.slice (Rect.unit (s := S15x4) ![s.val, j.val] S1x1.size (sem_inb s j))).squeeze S_ squeezes_S1x1_S_).sem

abbrev sendArr : Bool → DmaSems sig S15x4
  | true => cc0_scratch2
  | false => cc0_scratch4
abbrev recvArr : Bool → DmaSems sig S15x4
  | true => cc0_scratch3
  | false => cc0_scratch5
abbrev sendSem (d : Bool) (s : Fin 15) (j : Fin 4) : DmaSem sig := semAt (sendArr d) s j
abbrev recvSem (d : Bool) (s : Fin 15) (j : Fin 4) : DmaSem sig := semAt (recvArr d) s j
abbrev barS : Sem sig := (SemArray.scalar (sig.barrier 0 rfl) : Sems sig S_).sem

/-- The device a direction's copies go to, as the kernel computes it. -/
abbrev peer (c : Dev nD) : Bool → Dev nD
  | true => ⟨k0_dev3 c, k0_dev3_lt c⟩
  | false => ⟨k0_dev4 c, k0_dev4_lt c⟩

/-! ## The values computed -/

/-- The first column of a direction's half of `w` and of the result. -/
abbrev colBase : Bool → Nat
  | true => 0
  | false => 1024
theorem w_inb : ∀ d : Bool, ∀ a, (![0, colBase d] : Fin 2 → Nat) a + S128x1024.size a ≤ S128x2048.size a := by decide
abbrev wRect (d : Bool) : Rect S128x2048 := Rect.unit (s := S128x2048) ![0, colBase d] S128x1024.size (w_inb d)

/-- Where the rows of `x` multiplied before the first copy begin, -/
abbrev xOff₀ (c : Dev nD) : Bool → Fin 2 → Nat
  | true => k0_off1 c
  | false => k0_off2 c
theorem xOff₀_inb (c : Dev nD) : ∀ d, ∀ a, xOff₀ c d a + S128x128.size a ≤ S2048x128.size a
  | true => k0_off1_inb c
  | false => k0_off2_inb c
abbrev xRect₀ (c : Dev nD) (d : Bool) : Rect S2048x128 := Rect.unit (s := S2048x128) (xOff₀ c d) S128x128.size (xOff₀_inb c d)
/-- and those of ring step `s`. -/
abbrev xOff (c : Dev nD) (s : Fin 15) : Bool → Fin 2 → Nat
  | true => k0_off3 c (BitVec.ofNat 32 s.val)
  | false => k0_off4 c (BitVec.ofNat 32 s.val)
theorem xOff_inb (c : Dev nD) (s : Fin 15) : ∀ d, ∀ a, xOff c s d a + S128x128.size a ≤ S2048x128.size a
  | true => k0_off3_inb c s
  | false => k0_off4_inb c s
abbrev xRect (c : Dev nD) (s : Fin 15) (d : Bool) : Rect S2048x128 := Rect.unit (s := S2048x128) (xOff c s d) S128x128.size (xOff_inb c s d)

/-- The product of 128 rows of `x` with a half of `w`, in single precision. -/
def prodF (a : Vec F S128x128 .bf16) (b : Vec F S128x1024 .bf16) : FVec F S128x1024 .f32 :=
  matmul dot_S128x128_S128x1024_S128x1024_1_0_0_1_n_n none (shapeCast S128x128 a shapeCasts_S128x128_S128x128)
    (shapeCast S128x1024 b shapeCasts_S128x1024_S128x1024) (constant S128x1024 .f32 0x00000000#32)
/-- The same, rounded. -/
def prodB (a : Vec F S128x128 .bf16) (b : Vec F S128x1024 .bf16) : FVec F S128x1024 .bf16 := truncf .bf16 (prodF a b) bitsLt_bf16_f32

theorem col_slices : ∀ j : Fin 4, S128x1024.Slices ![0, 256 * j.val] S128x256 := by decide
/-- A received block added to column block `j` of the device's own product. -/
def addB (j : Fin 4) (p : FVec F S128x1024 .bf16) (v : Vec F S1x128x256 .bf16) : FVec F S1x128x256 .bf16 :=
  shapeCast S1x128x256 (addf (extractStridedSlice S128x256 ![0, 256 * j.val] p (col_slices j)) (shapeCast S128x256 v shapeCasts_S1x128x256_S128x256))
    shapeCasts_S128x256_S1x128x256
/-- The last addition, in single precision. -/
def addF (j : Fin 4) (p : FVec F S128x1024 .f32) (v : Vec F S1x128x256 .bf16) : FVec F S128x256 .f32 :=
  addf (extractStridedSlice S128x256 ![0, 256 * j.val] p (col_slices j)) (extf .f32 (shapeCast S128x256 v shapeCasts_S1x128x256_S128x256) bitsLt_bf16_f32)

theorem out_inb : ∀ (d : Bool) (j : Fin 4), ∀ a, (![0, colBase d + 256 * j.val] : Fin 2 → Nat) a + S128x256.size a ≤ S128x2048.size a := by decide
/-- The columns of the result that direction `d`, column block `j` writes. -/
abbrev outRect (d : Bool) (j : Fin 4) : Rect S128x2048 := Rect.unit (s := S128x2048) ![0, colBase d + 256 * j.val] S128x256.size (out_inb d j)

abbrev firstRect : Rect S16x128x1024 := Rect.unit (s := S16x128x1024) ![0, 0, 0] S1x128x1024.size inb_S16x128x1024_S1x128x1024_0_0_0

/-! ## The loop nest -/

/-- `f 0`, …, `f (N - 1)` from `k` on, `n` of them. -/
def upFrom {N : Nat} (f : Fin N → KP F PUnit) : (n k : Nat) → k + n = N → KP F PUnit
  | 0, _, _ => pure ⟨⟩
  | n + 1, k, h => f ⟨k, by omega⟩ >>= fun _ => upFrom f n (k + 1) (by omega)

/-- The four column blocks, both directions each. -/
def blocks (f : Fin 4 → Bool → KP F PUnit) : KP F PUnit := do
  f 0 true; f 0 false; f 1 true; f 1 false; f 2 true; f 2 false; f 3 true; f 3 false

/-- Start the copy of slot `s`, column block `j` to the neighbour's slot `s + 1`. -/
def send (c : Dev nD) (s : Fin 15) (j : Fin 4) (d : Bool) : KP F PUnit :=
  Prog.lift (.enqueueDma (slot d s.castSucc j) (.remote (Dev.tc (peer c d)) (slot d s.succ j) (.dma (sendSem d s j))) (.dma (recvSem d s j))
    (slot_exact d s.castSucc j) (slot_exact d s.succ j) ⟨⟨rfl, Or.inl rfl⟩, trivial⟩)

/-- Wait for the block that lands in slot `s + 1`. -/
def waitRecv (s : Fin 15) (j : Fin 4) (d : Bool) : KP F PUnit :=
  Prog.lift (.waitDma2 (recvSem d s j) (slot d s.castSucc j) (slot d s.succ j) (slot_exact d s.castSucc j) (slot_exact d s.succ j))

/-- Wait until the copy out of slot `s` has been read out. -/
def waitSend (s : Fin 15) (j : Fin 4) (d : Bool) : KP F PUnit :=
  Prog.lift (.waitDma2 (sendSem d s j) (slot d s.succ j) (slot d s.castSucc j) (slot_exact d s.succ j) (slot_exact d s.castSucc j))

/-- The product that goes out first, stored in slot 0. -/
def first (c : Dev nD) (d : Bool) : KP F PUnit := do
  let a ← Prog.lift (.load xM (xRect₀ c d).toLoadRect (View.loadsAt_vmem h_S128x128))
  let b ← Prog.lift (.load wM (wRect d).toLoadRect (View.loadsAt_vmem h_S128x1024))
  let _ ← Prog.lift (.load (comm d) firstRect.toLoadRect (View.loadsAt_vmem h_S1x128x1024))
  Prog.lift (.store (comm d) firstRect (shapeCast S1x128x1024 (prodB a b) shapeCasts_S128x1024_S1x128x1024) Finset.univ
    (View.stores_vmem h_S1x128x1024 ((comm_whole d).storeExact_slice rfl _ packedbf16_S16x128x1024_S1x128x1024_0_0_0) (fun _ => rfl)) (.inl rfl))

/-- Ring step `s` on column block `j`: receive, add the own product `p`, pass on. -/
def pass (c : Dev nD) (s : Fin 14) (j : Fin 4) (d : Bool) (p : FVec F S128x1024 .bf16) : KP F PUnit := do
  waitRecv s.castSucc j d
  let v ← Prog.lift (.load (comm d) (slotRect s.castSucc.succ j).toLoadRect (View.loadsAt_vmem h_S1x128x256))
  let _ ← Prog.lift (.load (comm d) (slotRect s.castSucc.succ j).toLoadRect (View.loadsAt_vmem h_S1x128x256))
  Prog.lift (.store (comm d) (slotRect s.castSucc.succ j) (addB j p v) Finset.univ
    (View.stores_vmem h_S1x128x256 ((comm_whole d).storeExact_slice rfl _ (slot_packed s.castSucc.succ j)) (fun _ => rfl)) (.inl rfl))
  send c s.succ j d

/-- The last ring step on column block `j`: receive, add the own product in single precision, write the result. -/
def finish (j : Fin 4) (d : Bool) (p : FVec F S128x1024 .f32) : KP F PUnit := do
  waitRecv 14 j d
  let v ← Prog.lift (.load (comm d) (slotRect 15 j).toLoadRect (View.loadsAt_vmem h_S1x128x256))
  let _ ← Prog.lift (.load oM (outRect d j).toLoadRect (View.loadsAt_vmem h_S128x256))
  Prog.lift (.store oM (outRect d j) (addF j p v) Finset.univ (View.stores_vmem_bits_univ h_S128x256 rfl) (.inl rfl))

/-- Read the two factors of step `s` for both directions, and go on with them. -/
def factors {α : Type} (c : Dev nD) (s : Fin 15)
    (k : (Bool → Vec F S128x128 .bf16) → (Bool → Vec F S128x1024 .bf16) → KP F α) : KP F α := do
  let a ← Prog.lift (.load xM (xRect c s true).toLoadRect (View.loadsAt_vmem h_S128x128))
  let b ← Prog.lift (.load wM (wRect true).toLoadRect (View.loadsAt_vmem h_S128x1024))
  let a' ← Prog.lift (.load xM (xRect c s false).toLoadRect (View.loadsAt_vmem h_S128x128))
  let b' ← Prog.lift (.load wM (wRect false).toLoadRect (View.loadsAt_vmem h_S128x1024))
  k (fun d => cond d a a') (fun d => cond d b b')

/-- One of the fourteen steps that pass on. -/
def step (c : Dev nD) (s : Fin 14) : KP F PUnit :=
  factors c s.castSucc fun a b => blocks fun j d => pass c s j d (prodB (a d) (b d))
/-- The last step. -/
def last (c : Dev nD) : KP F PUnit := factors c 14 fun a b => blocks fun j d => finish j d (prodF (a d) (b d))

/-- Both neighbours told that this device is ready, and both waited for. -/
def handshake (c : Dev nD) : KP F PUnit := do
  semSignalWord (⟨k0_dev1 c, k0_dev1_lt c⟩ : Dev nD) barS 1#32
  semSignalWord (⟨k0_dev2 c, k0_dev2_lt c⟩ : Dev nD) barS 1#32
  semWaitWord barS 2#32

/-- The whole body. -/
def body : KP F PUnit := do
  let c ← Prog.lift .deviceId
  handshake c
  first c true
  first c false
  blocks fun j d => send c 0 j d
  upFrom (step c) 14 0 rfl
  last c
  upFrom (fun s => blocks fun j d => waitSend s j d) 15 0 rfl

set_option maxRecDepth 100000 in
/-- The printed body is the loop nest. -/
theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    cc0_scratch2 cc0_scratch3 cc0_scratch4 cc0_scratch5 = body := by
  chain_rfl

end Cert.KernelIdeal.Flow

end
-- ==== Proof.KernelIdeal.Protocol.lean ====
/-
# The protocol of the ring

Who waits on which semaphore, who credits it, and what it hands over.

Write `nbr c true` for the device to the right of `c` on the ring and `nbr c false` for the one to the left. In direction `d`
device `c` copies to `nbr c d` and receives from `nbr c (!d)`. Every cell has one round.

* Barrier of `c`: two duties of one unit. Duty `d` is paid by `nbr c d` and hands `c` the landing slots of direction `d` on
  `nbr c d`. `c` waits for both units before its first copy.
* Receive cell `(d, s, j)` of `c`: one duty of one block's credit, paid by the copy of `nbr c (!d)`. It hands `c` its slot
  `s + 1` of direction `d`, column block `j`, holding the sender's partial sum `acc d j s`.
* Send cell `(d, s, j)` of `c`: one duty of one block's credit, paid when `c`'s own copy has been read out. It hands `c` its
  slot `s` back, unchanged.

A device waits for step `s` while it owes copies of later steps only. So the levels are: staging and send cells 0, barriers 1,
receive cells of step `s` at `2 + s`.
-/
module

public import proofs.«01_k».proof.Proof.KernelIdeal.Flow
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Algebra.BigOperators.Intervals

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The neighbour of `c` to the right (`true`) or to the left (`false`). -/
def nbr (c : Dev nD) (d : Bool) : Dev nD := ⟨(c.val + if d then 1 else 15) % 16, Nat.mod_lt _ (by decide)⟩

theorem nbr_back (c : Dev nD) (d : Bool) : nbr (nbr c d) (!d) = c := by revert c d; decide
theorem nbr_forth (c : Dev nD) (d : Bool) : nbr (nbr c (!d)) d = c := by revert c d; decide

/-- The ring, one step in direction `d`. -/
def ring (d : Bool) : Dev nD ≃ Dev nD := ⟨fun c => nbr c d, fun c => nbr c (!d), fun c => nbr_back c d, fun c => nbr_forth c d⟩

/-- The device a copy goes to is the neighbour in its direction. -/
theorem peer_eq (c : Dev nD) : ∀ d, peer c d = nbr c d
  | true => Fin.ext (k0_dev3_eq c)
  | false => Fin.ext (k0_dev4_eq c)
/-- The first signal goes to the left, the second to the right. -/
theorem sig1_eq (c : Dev nD) : (⟨k0_dev1 c, k0_dev1_lt c⟩ : Dev nD) = nbr c false := Fin.ext (k0_dev1_eq c)
theorem sig2_eq (c : Dev nD) : (⟨k0_dev2 c, k0_dev2_lt c⟩ : Dev nD) = nbr c true := Fin.ext (k0_dev2_eq c)

/-! ## The cells -/

/-- A copy: its direction, its step, its column block. -/
abbrev Copy : Type := Bool × Fin 15 × Fin 4
/-- A copy's two cells: `true` the receiver's, `false` the sender's. -/
abbrev Key : Type := Bool × Copy

/-- The copies' semaphores. -/
abbrev osem : Key → SemLoc sig
  | (true, d, s, j) => .dma (recvSem d s j)
  | (false, d, s, j) => .dma (sendSem d s j)
/-- The barrier (`none`) and the copies' semaphores. -/
abbrev ksem : Option Key → SemLoc sig
  | none => .reg barS
  | some k => osem k

/-- The semaphores are numbered one after another, array by array. -/
theorem osem_number : ∀ k : Key, osem k = .dma ⟨3 + 120 * (if k.2.1 then 0 else 1) + 60 * (if k.1 then 1 else 0) + 4 * k.2.2.1.val + k.2.2.2.val, by
    have h1 := k.2.2.1.isLt; have h2 := k.2.2.2.isLt
    show _ < 243
    split <;> split <;> omega⟩ := by
  rintro ⟨_ | _, _ | _, s, j⟩ <;> revert s j <;> decide

theorem osem_inj : Function.Injective osem := by
  intro a b h
  rw [osem_number, osem_number] at h
  have h' := congrArg Fin.val (SemLoc.dma.inj h)
  obtain ⟨a1, a2, a3, a4⟩ := a
  obtain ⟨b1, b2, b3, b4⟩ := b
  have := a3.isLt; have := a4.isLt; have := b3.isLt; have := b4.isLt
  simp only at h'
  have e : a1 = b1 ∧ a2 = b2 ∧ a3.val = b3.val ∧ a4.val = b4.val := by
    cases a1 <;> cases a2 <;> cases b1 <;> cases b2 <;> simp at h' ⊢ <;> omega
  obtain ⟨rfl, rfl, h3, h4⟩ := e
  rw [Fin.ext h3, Fin.ext h4]

theorem ksem_inj : Function.Injective ksem := by
  rintro (_ | a) (_ | b) h
  · rfl
  · exact absurd h (by rw [show ksem (some b) = osem b from rfl, osem_number]; exact fun h => by cases h)
  · exact absurd h (by rw [show ksem (some a) = osem a from rfl, osem_number]; exact fun h => by cases h)
  · exact congrArg some (osem_inj h)

/-- Which of these cells a semaphore is, if any. -/
def kindOf (sm : SemLoc sig) : Option (Option Key) := Function.partialInv ksem sm
theorem kindOf_ksem (k : Option Key) : kindOf (ksem k) = some k := Function.partialInv_left ksem_inj k
theorem kindOf_eq_some {sm : SemLoc sig} {k : Option Key} (h : kindOf sm = some k) : ksem k = sm :=
  (Function.partialInv_of_injective ksem_inj k sm).mp h

/-- The cell `k` of device `c`. -/
abbrev kcell (c : Dev nD) (k : Option Key) : GSem nD τ sig := ((c : Thread nD τ), ksem k)
abbrev barCell (c : Dev nD) : GSem nD τ sig := kcell c none
abbrev recvCell (c : Dev nD) (p : Copy) : GSem nD τ sig := kcell c (some (true, p))
abbrev sendCell (c : Dev nD) (p : Copy) : GSem nD τ sig := kcell c (some (false, p))

theorem kcell_inj {c c' : Dev nD} {k k' : Option Key} (h : kcell c k = kcell c' k') : c = c' ∧ k = k' :=
  ⟨by have := congrArg (fun g : GSem nD τ sig => g.1.1) h; exact this, ksem_inj (congrArg Prod.snd h)⟩

/-- One block's credit. -/
def N : ℕ := (slot true 0 0).view.dmaCredit
theorem N_pos : 0 < N := View.dmaCredit_pos _ (by decide)
theorem slot_credit (d : Bool) (k : Fin 16) (j : Fin 4) : (slot d k j).view.dmaCredit = N := by cases d <;> rfl

/-! ## The contents -/

variable (X : Dev nD → Vec F S2048x128 .bf16) (Wt : Dev nD → Vec F S128x2048 .bf16)

/-- The rows of `x` multiplied first, and those of step `s`. -/
def rows₀ (c : Dev nD) (d : Bool) : Vec F S128x128 .bf16 := xM.view.readAt (Elt F) (xRect₀ c d).toLoadRect (X c)
def rows (c : Dev nD) (s : Fin 15) (d : Bool) : Vec F S128x128 .bf16 := xM.view.readAt (Elt F) (xRect c s d).toLoadRect (X c)
/-- A direction's half of `w`. -/
def half (c : Dev nD) (d : Bool) : Vec F S128x1024 .bf16 := wM.view.readAt (Elt F) (wRect d).toLoadRect (Wt c)

/-- Column block `j` of a 128 by 1024 array. -/
def cols {φ : FTy} (j : Fin 4) (p : FVec F S128x1024 φ) : FVec F S128x256 φ := extractStridedSlice S128x256 ![0, 256 * j.val] p (col_slices j)

/-- The partial sum that device `c` sends on in step `k` of direction `d`, column block `j`: the first product, then in every
    step the own product plus what came in. -/
def acc (d : Bool) (j : Fin 4) : ℕ → Dev nD → FVec F S128x256 .bf16
  | 0, c => cols j (prodB (rows₀ X c d) (half Wt c d))
  | k + 1, c => addf (cols j (prodB (rows X c (Fin.ofNat 15 k) d) (half Wt c d))) (acc d j k (nbr c (!d)))

/-- The block of the result that direction `d`, column block `j` ends with on device `c`. -/
def res (c : Dev nD) (d : Bool) (j : Fin 4) : FVec F S128x256 .f32 :=
  addf (cols j (prodF (rows X c 14 d) (half Wt c d))) (extf .f32 (acc X Wt d j 14 (nbr c (!d))) bitsLt_bf16_f32)

/-- Slot `k`, column block `j` of direction `d` on device `c`, holding `v`. -/
def slotPts (c : Dev nD) (d : Bool) (k : Fin 16) (j : Fin 4) (v : Vec F S128x256 .bf16) : sProp 𝕄 :=
  (slot d k j).view.loc (c : Thread nD τ) ↦[(slot d k j).view.set]{fullShare} (slot d k j).view.rep v

instance slotPts_storable (c : Dev nD) (d : Bool) (k : Fin 16) (j : Fin 4) (v : Vec F S128x256 .bf16) :
    BI.Storable (upEmb : UEmb _ 𝕄) (slotPts c d k j v) := by unfold slotPts; infer_instance

/-- The landing slots of direction `d` on device `c`, whatever they hold. -/
def landing (c : Dev nD) (d : Bool) : sProp 𝕄 :=
  bigSep Finset.univ fun p : Fin 15 × Fin 4 => iprop(∃ v, slotPts c d p.1.succ p.2 v)

instance landing_storable (c : Dev nD) (d : Bool) : BI.Storable (upEmb : UEmb _ 𝕄) (landing (F := F) c d) := by
  unfold landing; infer_instance

/-! ## The schedule -/

/-- What a copy hands to the receiver, and back to the sender. -/
def copyPay (c : Dev nD) : Key → sProp 𝕄
  | (true, d, s, j) => slotPts c d s.succ j (acc X Wt d j s.val (nbr c (!d)))
  | (false, d, s, j) => slotPts c d s.castSucc j (acc X Wt d j s.val c)

instance copyPay_storable (c : Dev nD) : ∀ k, BI.Storable (upEmb : UEmb _ 𝕄) (copyPay X Wt c k)
  | (true, d, s, j) => by unfold copyPay; infer_instance
  | (false, d, s, j) => by unfold copyPay; infer_instance

/-- The duties of a cell, their amounts, what they hand over. -/
def kDuties : Option (Option Key) → Finset Bool
  | some none => Finset.univ
  | some (some _) => {true}
  | none => ∅
def kAmount : Option (Option Key) → ℕ
  | some none => 1
  | _ => N
def kPay (c : Dev nD) (d : Bool) : Option (Option Key) → sProp 𝕄
  | some none => landing (nbr c d) d
  | some (some k) => copyPay X Wt c k
  | none => iprop(emp)

instance kPay_storable (c : Dev nD) (d : Bool) : ∀ k, BI.Storable (upEmb : UEmb _ 𝕄) (kPay X Wt c d k)
  | some none => by unfold kPay; infer_instance
  | some (some k) => by unfold kPay; infer_instance
  | none => by unfold kPay; infer_instance

/-- The protocol as a schedule. -/
def Rd : Rounds.Schedule (GSem nD τ sig) Bool 𝕄 where
  duties g r := if r = 0 then kDuties (kindOf g.2) else ∅
  unitless _ := False
  amount g _ _ := kAmount (kindOf g.2)
  payload g _ d := kPay X Wt g.1.1 d (kindOf g.2)
  amount_pos g _ _ _ := by
    show 0 < kAmount (kindOf g.2)
    unfold kAmount; split
    · exact Nat.one_pos
    · exact N_pos

instance Rd_payload_storable (g : GSem nD τ sig) (r : ℕ) (d : Bool) : BI.Storable (upEmb : UEmb _ 𝕄) ((Rd X Wt).payload g r d) := by
  show BI.Storable upEmb (kPay X Wt g.1.1 d (kindOf g.2)); infer_instance

theorem duties_at (c : Dev nD) (k : Option Key) : (Rd X Wt).duties (kcell c k) 0 = kDuties (some k) := by
  show (if (0 : ℕ) = 0 then kDuties (kindOf (ksem k)) else ∅) = _
  rw [if_pos rfl, kindOf_ksem]
theorem duties_later (g : GSem nD τ sig) : ∀ r, 0 + 1 ≤ r → (Rd X Wt).duties g r = ∅ := fun r hr => if_neg (by omega)
theorem amount_at (c : Dev nD) (k : Option Key) (d : Bool) : (Rd X Wt).amount (kcell c k) 0 d = kAmount (some k) := by
  show kAmount (kindOf (ksem k)) = _; rw [kindOf_ksem]
theorem payload_at (c : Dev nD) (k : Option Key) (d : Bool) : (Rd X Wt).payload (kcell c k) 0 d = kPay X Wt c d (some k) := by
  show kPay X Wt c d (kindOf (ksem k)) = _; rw [kindOf_ksem]

theorem expect_bar (c : Dev nD) : (Rd X Wt).expect (barCell c) 0 = 2 := by
  unfold Schedule.expect Schedule.amountOf
  rw [duties_at, Finset.sum_congr rfl fun d _ => amount_at X Wt c none d]; rfl
theorem expect_copy (c : Dev nD) (k : Key) : (Rd X Wt).expect (kcell c (some k)) 0 = N := by
  unfold Schedule.expect Schedule.amountOf
  rw [duties_at, Finset.sum_congr rfl fun d _ => amount_at X Wt c (some k) d]; exact Finset.sum_singleton _ _

/-- The barrier's round hands over both neighbours' landing slots. -/
theorem rest_bar (c : Dev nD) :
    bigSep ((Rd X Wt).duties (barCell c) 0 \ ∅) (fun d => (Rd X Wt).payload (barCell c) 0 d)
      = iprop(landing (nbr c true) true ∗ landing (nbr c false) false) := by
  rw [Finset.sdiff_empty, duties_at, bigSep_congr fun d _ => payload_at X Wt c none d]
  exact bigSep_univ_eq_bigSepL [true, false] (by decide) (by decide) _
/-- A copy's round hands over its one payload. -/
theorem rest_copy (c : Dev nD) (k : Key) :
    bigSep ((Rd X Wt).duties (kcell c (some k)) 0 \ ∅) (fun d => (Rd X Wt).payload (kcell c (some k)) 0 d) = copyPay X Wt c k := by
  rw [Finset.sdiff_empty, duties_at, bigSep_congr fun d _ => payload_at X Wt c (some k) d]
  exact bigSep_singleton

/-! ## What is owed; the levels -/

/-- The copies in program order: number `8 s + 2 j`, plus one to the left. -/
def copyAt (u : ℕ) : Copy := (u % 2 == 0, Fin.ofNat 15 (u / 8), Fin.ofNat 4 (u % 8 / 2))
/-- The place of column block `j`, direction `d` within a step. -/
abbrev place (j : Fin 4) (d : Bool) : ℕ := 2 * j.val + if d then 0 else 1
theorem copyAt_place : ∀ (s : Fin 15) (j : Fin 4) (d : Bool), copyAt (8 * s.val + place j d) = (d, s, j) := by decide

/-- What device `c` owes from copy number `u` on: one block's credit to each receiver's cell. -/
def owedFrom (c : Dev nD) (u : ℕ) : CellTallies nD τ sig Unit :=
  ∑ v ∈ Finset.Ico u 120, tallyAt (recvCell (nbr c (copyAt v).1) (copyAt v)) () N
theorem owedFrom_step (c : Dev nD) (u : ℕ) (h : u < 120) :
    owedFrom c u = owedFrom c (u + 1) + tallyAt (recvCell (nbr c (copyAt u).1) (copyAt u)) () N := by
  unfold owedFrom; rw [Finset.sum_eq_sum_Ico_succ_bot h, add_comm]
theorem owedFrom_end (c : Dev nD) : owedFrom c 120 = 0 := by unfold owedFrom; rw [Finset.Ico_self, Finset.sum_empty]

/-- What device `c` owes at launch: the copies, then a unit to each neighbour's barrier (duty `d` of a barrier is paid from
    direction `d`: the right-going landing slots are announced to the left). -/
def owed₁ (c : Dev nD) : CellTallies nD τ sig Unit := owedFrom c 0 + tallyAt (barCell (nbr c true)) () 1
def owed₀ (c : Dev nD) : CellTallies nD τ sig Unit := owed₁ c + tallyAt (barCell (nbr c false)) () 1

def L (g : GSem nD τ sig) : Finset Unit := if g.1.2 = .tc then {()} else ∅
def kLevel : Option (Option Key) → ℕ
  | some none => 1
  | some (some (true, _, s, _)) => 2 + s.val
  | _ => 0
def lv (g : GSem nD τ sig) (_ : Unit) : ℕ := kLevel (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Option Key) (u : Unit) : lv (kcell c k) u = kLevel (some k) := by unfold lv; rw [kindOf_ksem]

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- What is owed from `u` on lies at receive cells of the steps from `u / 8` on. -/
theorem owedFrom_pos {c : Dev nD} {u : ℕ} {g : GSem nD τ sig} {i : Unit} (h : 0 < owedFrom c u g i) :
    ∃ v, u ≤ v ∧ v < 120 ∧ g = recvCell (nbr c (copyAt v).1) (copyAt v) := by
  unfold owedFrom at h
  rw [Finset.sum_apply, Finsupp.finsetSum_apply] at h
  obtain ⟨v, hv, hp⟩ := Finset.exists_ne_zero_of_sum_ne_zero (Nat.pos_iff_ne_zero.mp h)
  have := Finset.mem_Ico.mp hv
  exact ⟨v, this.1, this.2, tally_pos (Nat.pos_of_ne_zero hp)⟩

theorem lv_owed (c : Dev nD) (v : ℕ) (h : v < 120) (i : Unit) : lv (recvCell (nbr c (copyAt v).1) (copyAt v)) i = 2 + v / 8 := by
  rw [lv_at]; show 2 + (Fin.ofNat 15 (v / 8)).val = _
  rw [Fin.val_ofNat, Nat.mod_eq_of_lt (by omega)]

/-- A wait at a level below every step still owed is allowed. -/
theorem mayWait_of_level (c : Dev nD) (sm : SemLoc sig) (n u : ℕ) (hl : kLevel (kindOf sm) ≤ n) (hu : n < 2 + u / 8) :
    (levAts L lv : sProp 𝕄) ⊢ MayWait (c : Thread nD τ) sm () (owedFrom c u) :=
  MayOwe.of_cut (L := L) (lev := lv) n (fun p hp => by rw [Finset.mem_singleton.mp hp, L_tc]; exact Finset.mem_singleton_self _)
    (fun g i hg => by obtain ⟨v, -, -, rfl⟩ := owedFrom_pos hg; rw [L_tc]; exact Finset.mem_singleton_self _)
    (fun p hp => by rw [Finset.mem_singleton.mp hp]; exact hl)
    (fun g i hg => by
      obtain ⟨v, h1, h2, rfl⟩ := owedFrom_pos hg
      rw [lv_owed c v h2]
      have := Nat.div_le_div_right (c := 8) h1
      omega)

/-- The staging semaphores may be waited for throughout. -/
theorem mayWait_stage (c : Dev nD) (sm : SemLoc sig) (hk : kindOf sm = none) :
    (levAts L lv : sProp 𝕄) ⊢ MayWait (c : Thread nD τ) sm () (owed₀ c) :=
  MayOwe.of_cut (L := L) (lev := lv) 0 (fun p hp => by rw [Finset.mem_singleton.mp hp, L_tc]; exact Finset.mem_singleton_self _)
    (fun g i hg => by
      rcases owed_cases hg with ⟨v, -, rfl⟩ | ⟨d, rfl⟩ <;> (rw [L_tc]; exact Finset.mem_singleton_self _))
    (fun p hp => by rw [Finset.mem_singleton.mp hp]; show kLevel (kindOf sm) ≤ 0; rw [hk]; exact Nat.le_refl 0)
    (fun g i hg => by
      rcases owed_cases hg with ⟨v, h, rfl⟩ | ⟨d, rfl⟩
      · rw [lv_owed c v h]; omega
      · rw [lv_at]; exact Nat.one_pos)
where
  owed_cases {g : GSem nD τ sig} {i : Unit} (h : 0 < owed₀ c g i) :
      (∃ v, v < 120 ∧ g = recvCell (nbr c (copyAt v).1) (copyAt v)) ∨ ∃ d, g = barCell (nbr c d) := by
    unfold owed₀ owed₁ at h
    rw [Pi.add_apply, Finsupp.add_apply, Pi.add_apply, Finsupp.add_apply] at h
    rcases (by omega : 0 < owedFrom c 0 g i ∨ 0 < (tallyAt (barCell (nbr c true)) () 1 : CellTallies nD τ sig Unit) g i
      ∨ 0 < (tallyAt (barCell (nbr c false)) () 1 : CellTallies nD τ sig Unit) g i) with h | h | h
    · obtain ⟨v, -, h2, rfl⟩ := owedFrom_pos h; exact .inl ⟨v, h2, rfl⟩
    · exact .inr ⟨true, tally_pos h⟩
    · exact .inr ⟨false, tally_pos h⟩

end Cert.KernelIdeal.Flow

end
-- ==== Proof.KernelIdeal.Slots.lean ====
/-
# The slots of a communication buffer

A communication buffer is held slot by slot: sixteen slots of four column blocks, pairwise disjoint, covering the buffer.
Here: the cut and the join, what the first product stored over slot 0 leaves in its four blocks, and what the load of one
slot reads and the store to one slot leaves.
-/
module

public import proofs.«01_k».proof.Proof.KernelIdeal.Protocol
public import Idealize.ShloMosaic.Lib.Pipeline.Value
public import Idealize.ShloMosaic.Lib.VecWindow
public import Idealize.ShloMosaic.Lib.Ring

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

/-! ## A big conjunction over `Fin (n + 1)`, its first or its last entry apart -/

theorem bigSep_head {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl
theorem bigSep_tail {n : ℕ} (Φ : Fin (n + 1) → sProp 𝕄) :
    bigSep Finset.univ Φ = iprop(Φ (Fin.last n) ∗ bigSep Finset.univ fun k : Fin n => Φ k.castSucc) := by
  rw [Fin.univ_castSuccEmb, Finset.cons_eq_insert, bigSep_insert (by simp [Fin.castSucc_ne_last]), bigSep_map]; rfl

/-! ## The sets of elements -/

/-- The elements of a communication buffer that slot `k`, column block `j` covers. -/
def elems (d : Bool) (k : Fin 16) (j : Fin 4) : Finset (comm d).view.ty.Idx := (slotRect k j).set.map (comm d).view.emb
theorem slot_set (d : Bool) (k : Fin 16) (j : Fin 4) : (slot d k j).view.set = elems d k j :=
  (View.set_reshape _ _).trans (View.set_slice _ _)
theorem access_set (d : Bool) (k : Fin 16) (j : Fin 4) : ((comm d).access (slotRect k j)).set = elems d k j := View.set_slice _ _
theorem mem_elems {d : Bool} {k : Fin 16} {j : Fin 4} {i : (comm d).view.ty.Idx} :
    i ∈ elems d k j ↔ ∃ x ∈ (slotRect k j).set, (comm d).view.emb x = i := Finset.mem_map

theorem slotRect_mem (k : Fin 16) (j : Fin 4) (x : S16x128x1024.Idx) :
    x ∈ (slotRect k j).set ↔ (x 0).val = k.val ∧ 256 * j.val ≤ (x 2).val ∧ (x 2).val < 256 * j.val + 256 := by
  rw [Rect.mem_set_unit]
  constructor
  · intro h
    have h0 := h 0; have h2 := h 2
    simp only [Matrix.cons_val_zero, Matrix.cons_val] at h0 h2
    have e0 : S1x128x256.size 0 = 1 := rfl
    have e2 : S1x128x256.size 2 = 256 := rfl
    omega
  · rintro ⟨h0, h1, h2⟩ a
    have := (x 1).isLt
    have e1 : S16x128x1024.size 1 = 128 := rfl
    match a with
    | ⟨0, _⟩ => exact ⟨h0.symm.le, by show (x 0).val < k.val + 1; omega⟩
    | ⟨1, _⟩ => exact ⟨Nat.zero_le _, by show (x 1).val < 0 + 128; omega⟩
    | ⟨2, _⟩ => exact ⟨h1, h2⟩
theorem firstRect_mem (x : S16x128x1024.Idx) : x ∈ firstRect.set ↔ (x 0).val = 0 := by
  rw [Rect.mem_set_unit]
  constructor
  · intro h
    have h0 := h 0
    simp only [Matrix.cons_val_zero] at h0
    have e0 : S1x128x1024.size 0 = 1 := rfl
    omega
  · rintro h0 a
    have := (x 1).isLt; have := (x 2).isLt
    have e1 : S16x128x1024.size 1 = 128 := rfl
    have e2 : S16x128x1024.size 2 = 1024 := rfl
    match a with
    | ⟨0, _⟩ => exact ⟨Nat.zero_le _, by show (x 0).val < 0 + 1; omega⟩
    | ⟨1, _⟩ => exact ⟨Nat.zero_le _, by show (x 1).val < 0 + 128; omega⟩
    | ⟨2, _⟩ => exact ⟨Nat.zero_le _, by show (x 2).val < 0 + 1024; omega⟩

theorem elems_disjoint (d : Bool) (p p' : Fin 16 × Fin 4) (h : p ≠ p') : Disjoint (elems d p.1 p.2) (elems d p'.1 p'.2) := by
  unfold elems
  rw [Finset.disjoint_map, Finset.disjoint_left]
  intro x hx hx'
  rw [slotRect_mem] at hx hx'
  exact h (Prod.ext (Fin.ext (by omega)) (Fin.ext (by omega)))
theorem elems_disjoint₀ (d : Bool) (j j' : Fin 4) (h : j ≠ j') : Disjoint (elems d 0 j) (elems d 0 j') :=
  elems_disjoint d (0, j) (0, j') fun e => h (congrArg Prod.snd e)

theorem slot_cover (d : Bool) : Finset.univ.biUnion (fun p : Fin 16 × Fin 4 => elems d p.1 p.2) = (comm d).view.set := by
  ext i
  rw [Finset.mem_biUnion]
  constructor
  · rintro ⟨p, -, hp⟩
    obtain ⟨x, -, rfl⟩ := mem_elems.mp hp
    exact Finset.mem_map_of_mem _ (Finset.mem_univ x)
  · intro hi
    obtain ⟨x, -, rfl⟩ := Finset.mem_map.mp hi
    have hx : (x 2).val < 1024 := (x 2).isLt
    have hx0 : (x 0).val < 16 := (x 0).isLt
    refine ⟨(⟨(x 0).val, hx0⟩, ⟨(x 2).val / 256, by omega⟩), Finset.mem_univ _, mem_elems.mpr ⟨x, (slotRect_mem _ _ _).mpr ⟨rfl, ?_, ?_⟩, rfl⟩⟩
      <;> (dsimp only; omega)

theorem first_cover (d : Bool) :
    Finset.univ.biUnion (fun j : Fin 4 => elems d 0 j) = ((comm d).access firstRect).set := by
  rw [View.set_slice]
  ext i
  rw [Finset.mem_biUnion, Finset.mem_map]
  constructor
  · rintro ⟨j, -, hj⟩
    obtain ⟨x, hx, rfl⟩ := mem_elems.mp hj
    exact ⟨x, (firstRect_mem x).mpr ((slotRect_mem _ _ _).mp hx).1, rfl⟩
  · rintro ⟨x, hx, rfl⟩
    have h0 := (firstRect_mem x).mp hx
    have hx2 : (x 2).val < 1024 := (x 2).isLt
    exact ⟨⟨(x 2).val / 256, by omega⟩, Finset.mem_univ _, mem_elems.mpr
      ⟨x, (slotRect_mem _ _ _).mpr ⟨h0, by dsimp only; omega, by dsimp only; omega⟩, rfl⟩⟩

/-! ## Cutting and joining -/

/-- Slot 0 of direction `d` on device `c`, all its columns, at whatever `f` holds there. -/
def firstPts (c : Dev nD) (d : Bool) (f : Buf (Elt F) ((comm d).view.loc (c : Thread nD τ))) : sProp 𝕄 :=
  (comm d).view.loc (c : Thread nD τ) ↦[((comm d).access firstRect).set]{fullShare} f

/-- A slot's elements held at anything are the slot holding something. -/
theorem slotPts_of (c : Dev nD) (d : Bool) (k : Fin 16) (j : Fin 4) (f : Buf (Elt F) ((comm d).view.loc (c : Thread nD τ))) :
    ((comm d).view.loc (c : Thread nD τ) ↦[elems d k j]{fullShare} f : sProp 𝕄)
      ⊢ slotPts c d k j ((slot d k j).view.read (Elt F) f) := by
  rw [← slot_set]
  exact pointsTo_rep_entails (c : Thread nD τ) (slot d k j) f fullShare

/-- A communication buffer is slot 0 and the landing slots. -/
theorem comm_split (c : Dev nD) (d : Bool) (f : Buf (Elt F) ((comm d).view.loc (c : Thread nD τ))) :
    ((comm d).view.loc (c : Thread nD τ) ↦[(comm d).view.set]{fullShare} f : sProp 𝕄)
      ⊢ iprop((∃ f, firstPts c d f) ∗ landing c d) := by
  rw [← slot_cover, pointsTo_biUnion _ _ (fun p _ p' _ h => elems_disjoint d p p' h), bigSep_univ_prod, bigSep_head]
  have e := pointsTo_biUnion (ℓ := (comm d).view.loc (c : Thread nD τ)) (q := fullShare) (f := f) (Ix := Unit) (Name := ℕ) (U := UU) (Lvl := ℕ) Finset.univ
    (fun j : Fin 4 => elems d 0 j) (fun j _ j' _ h => elems_disjoint₀ d j j' h)
  rw [first_cover] at e
  refine Laws.sep_mono ((Entails.of_eq e.symm).trans <| exists_intro (Φ := fun f => firstPts c d f) f) ?_
  unfold landing
  rw [bigSep_univ_prod]
  exact bigSep_mono fun s _ => bigSep_mono fun j _ =>
    (slotPts_of c d s.succ j f).trans (exists_intro (Φ := fun v => slotPts c d s.succ j v) _)

theorem slotPts_some (c : Dev nD) (d : Bool) (k : Fin 16) (j : Fin 4) :
    iprop(∃ v, slotPts c d k j v) ⊢ (iprop(∃ f, (comm d).view.loc (c : Thread nD τ) ↦[elems d k j]{fullShare} f) : sProp 𝕄) := by
  refine exists_elim fun v => BIBase.Entails.trans (Entails.of_eq ?_)
    (exists_intro (Φ := fun f => (comm d).view.loc (c : Thread nD τ) ↦[elems d k j]{fullShare} f) ((slot d k j).view.rep v))
  unfold slotPts; rw [slot_set]

/-- All its slots together are the communication buffer again. -/
theorem comm_join (c : Dev nD) (d : Bool) :
    (bigSep Finset.univ fun p : Fin 16 × Fin 4 => iprop(∃ v, slotPts c d p.1 p.2 v) : sProp 𝕄)
      ⊢ iprop(∃ f, (comm d).view.loc (c : Thread nD τ) ↦[(comm d).view.set]{fullShare} f) := by
  have h := Ring.pointsTo_sub_blocks_join_exists (Ix := Unit) (Val := Elt F) (Name := ℕ) (U := UU) (Lvl := ℕ) (ℓ := (comm d).view.loc (c : Thread nD τ)) (q := fullShare)
    (fun p : Fin 16 × Fin 4 => elems d p.1 p.2) (elems_disjoint d) _ (slot_cover d) (fun _ => Classical.arbitrary _)
  refine BIBase.Entails.trans ?_ h
  exact bigSep_mono fun p _ => slotPts_some c d p.1 p.2

/-! ## The first product over slot 0 -/

/-- Column block `j` of slot 0, after the first product `p` was stored over the slot, reads column block `j` of `p`. -/
theorem first_read (d : Bool) (j : Fin 4) (f : ((comm d).access firstRect).ty.Contents (Elt F)) (p : FVec F S128x1024 .bf16) :
    (slot d 0 j).view.read (Elt F)
        (((comm d).access firstRect).write (Elt F) f (shapeCast S1x128x1024 p shapeCasts_S128x1024_S1x128x1024) Finset.univ)
      = cols j p := by
  funext y
  have hy0 : (y 0).val < 128 := (y 0).isLt
  have hy1 : (y 1).val < 256 := (y 1).isLt
  have hj := j.isLt
  set w := shapeCast S1x128x1024 p shapeCasts_S128x1024_S1x128x1024 with hw
  set z : S1x128x1024.Idx := Fin.cons ⟨0, Nat.one_pos⟩ (fun a => ⟨(![0, 256 * j.val] : Fin 2 → ℕ) a + (y a).val,
    by match a with
      | ⟨0, _⟩ => show 0 + (y 0).val < 128; omega
      | ⟨1, _⟩ => show 256 * j.val + (y 1).val < 1024; omega⟩ : S128x1024.Idx) with hz
  have hemb : (slotRect 0 j).emb (Shape.reshapeEquiv squeezes_S1x128x256_S128x256.numel_eq y) = firstRect.emb z := by
    have e : Shape.reshapeEquiv squeezes_S1x128x256_S128x256.numel_eq y = (Fin.cons ⟨0, Nat.one_pos⟩ y : S1x128x256.Idx) :=
      Shape.reshapeEquiv_cons_one _ _
    rw [e]
    funext a
    apply Fin.ext
    match a with
    | ⟨0, _⟩ => show 0 + 1 * 0 = 0 + 1 * 0; rfl
    | ⟨1, _⟩ => show 0 + 1 * (y 0).val = 0 + 1 * (0 + (y 0).val); omega
    | ⟨2, _⟩ => show 256 * j.val + 1 * (y 1).val = 0 + 1 * (256 * j.val + (y 1).val); omega
  have h1 : (slot d 0 j).view.read (Elt F) (((comm d).access firstRect).write (Elt F) f w Finset.univ) y
      = (comm d).view.read (Elt F) (((comm d).access firstRect).write (Elt F) f w Finset.univ)
          ((slotRect 0 j).emb (Shape.reshapeEquiv squeezes_S1x128x256_S128x256.numel_eq y)) := rfl
  rw [h1, hemb]
  have h2 : (comm d).view.read (Elt F) (((comm d).access firstRect).write (Elt F) f w Finset.univ) (firstRect.emb z)
      = ((comm d).access firstRect).read (Elt F) (((comm d).access firstRect).write (Elt F) f w Finset.univ) z := rfl
  rw [h2, View.read_write_univ, hw]
  exact shapeCast_addUnit_apply ![128, 1024] p _ z

/-- So slot 0 holding the first product is its four column blocks. -/
theorem first_split (c : Dev nD) (d : Bool) (f : Buf (Elt F) ((comm d).view.loc (c : Thread nD τ))) (p : FVec F S128x1024 .bf16) :
    firstPts c d (((comm d).access firstRect).write (Elt F) f (shapeCast S1x128x1024 p shapeCasts_S128x1024_S1x128x1024) Finset.univ)
      ⊢ (bigSep Finset.univ fun j : Fin 4 => slotPts c d 0 j (cols j p) : sProp 𝕄) := by
  unfold firstPts
  rw [← first_cover, pointsTo_biUnion _ _ (fun j _ j' _ h => elems_disjoint₀ d j j' h)]
  exact bigSep_mono fun j _ => by rw [← first_read d j f p]; exact slotPts_of c d 0 j _

/-! ## One slot loaded and stored -/

/-- The load of a slot holding `v` reads `v` (with a leading unit axis); -/
theorem slot_readAt (d : Bool) (k : Fin 16) (j : Fin 4) (v : Vec F S128x256 .bf16) :
    shapeCast S128x256 ((comm d).view.readAt (Elt F) (slotRect k j).toLoadRect ((slot d k j).view.rep v)) shapeCasts_S1x128x256_S128x256 = v := by
  rw [← Memref.read_squeeze_slice (comm d) (slotRect k j) (fun _ => rfl) squeezes_S1x128x256_S128x256]
  exact View.read_rep _ _

/-- the store to a slot leaves the slot holding what was stored. -/
theorem slot_stored (c : Dev nD) (d : Bool) (k : Fin 16) (j : Fin 4) (f : Buf (Elt F) ((comm d).view.loc (c : Thread nD τ)))
    (w : FVec F S128x256 .bf16) :
    ((comm d).view.loc (c : Thread nD τ) ↦[elems d k j]{fullShare}
        (((comm d).access (slotRect k j)).write (Elt F) f (shapeCast S1x128x256 w shapeCasts_S128x256_S1x128x256) Finset.univ) : sProp 𝕄)
      ⊢ slotPts c d k j w := by
  refine (slotPts_of c d k j _).trans (Entails.of_eq (congrArg _ ?_))
  rw [Memref.read_squeeze_slice (comm d) (slotRect k j) (fun _ => rfl) squeezes_S1x128x256_S128x256 shapeCasts_S1x128x256_S128x256]
  have h : (comm d).view.readAt (Elt F) (slotRect k j).toLoadRect
        (((comm d).access (slotRect k j)).write (Elt F) f (shapeCast S1x128x256 w shapeCasts_S128x256_S1x128x256) Finset.univ)
      = shapeCast S1x128x256 w shapeCasts_S128x256_S1x128x256 :=
    View.read_write_univ (v := (comm d).access (slotRect k j)) _ _
  rw [h]
  exact shapeCast_shapeCast _ _ _

end Cert.KernelIdeal.Flow

end
-- ==== Proof.KernelIdeal.Moves.lean ====
/-
# The single moves of the body

Each operation of the loop nest with what it needs and what it leaves, at a symbolic device and copy.
-/
module

public import proofs.«01_k».proof.Proof.KernelIdeal.Slots

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable (X : Dev nD → Vec F S2048x128 .bf16) (Wt : Dev nD → Vec F S128x2048 .bf16) (K : Dev nD × Option Key → ℕ) (c : Dev nD)

abbrev 𝒱₀ : Variants := Variants.none

/-! ## What every device may use throughout -/

/-- Every cell's invariant, that its round 0 is reached, and the levels. -/
def recs : sProp 𝕄 :=
  iprop((bigSep Finset.univ fun q : Dev nD × Option Key => cellInv ER (Rd X Wt) (K q) (kcell q.1 q.2))
    ∗ (bigSep Finset.univ fun q : Dev nD × Option Key => reached ER (kcell q.1 q.2) 0) ∗ levAts L lv)

instance recs_persistent : BI.Persistent (recs X Wt K) := by unfold recs; infer_instance

theorem recs_inv (c' : Dev nD) (k : Option Key) : recs X Wt K ⊢ cellInv ER (Rd X Wt) (K (c', k)) (kcell c' k) := by
  have h : (bigSep Finset.univ fun q : Dev nD × Option Key => cellInv ER (Rd X Wt) (K q) (kcell q.1 q.2))
      ⊢ cellInv ER (Rd X Wt) (K (c', k)) (kcell c' k) := bigSep_elim (Finset.mem_univ (c', k))
  unfold recs
  iintro ⟨H, -, -⟩
  iapply h; iexact H
theorem recs_reached (c' : Dev nD) (k : Option Key) : recs X Wt K ⊢ reached ER (kcell c' k) 0 := by
  have h : (bigSep Finset.univ fun q : Dev nD × Option Key => (reached ER (kcell q.1 q.2) 0 : sProp 𝕄))
      ⊢ reached ER (kcell c' k) 0 := bigSep_elim (Finset.mem_univ (c', k))
  unfold recs
  iintro ⟨-, H, -⟩
  iapply h; iexact H
theorem recs_mayWait (c' : Dev nD) (sm : SemLoc sig) (O : CellTallies nD τ sig Unit)
    (hm : (levAts L lv : sProp 𝕄) ⊢ MayWait (c' : Thread nD τ) sm () O) : recs X Wt K ⊢ MayWait (c' : Thread nD τ) sm () O := by
  unfold recs
  iintro ⟨-, -, H⟩
  iapply hm; iexact H

/-- Program `p` on device `c` leads from `P` to `R`. -/
def Does (p : KP F PUnit) (P R : sProp 𝕄) : Prop :=
  ∀ Q : PUnit → sProp 𝕄, iprop(recs X Wt K ∗ P)
    ⊢ iprop((R -∗ Q ⟨⟩) -∗ wp frame (wpE (defs₀ (F := F)) 𝒱₀ (c : Thread nD τ) none) Set.univ p Q)

/-! ## What a device holds of a copy -/

/-- A copy not yet started: the two duties it will pay, the device's place at its own cell, the neighbour's slot. -/
def unsent (p : Copy) : sProp 𝕄 :=
  iprop(dutyTok ER (sendCell c p) 0 true ∗ dutyTok ER (recvCell (nbr c p.1) p) 0 true ∗ atPos ER (sendCell c p) 0 ∅ 0
    ∗ ∃ v, slotPts (nbr c p.1) p.1 p.2.1.succ p.2.2 v)
/-- A copy started: the right to wait for its reading out. -/
def sent (p : Copy) : sProp 𝕄 := iprop(cred (tallyAt (sendCell c p) () N) ∗ atPos ER (sendCell c p) 0 ∅ 0)
/-- A copy read out: its slot again. -/
def back (p : Copy) : sProp 𝕄 := iprop(semVal (sendCell c p) 0 ∗ ∃ v, slotPts c p.1 p.2.1.castSucc p.2.2 v)
/-- A copy to be received: the right to wait for it. -/
def unrecv (p : Copy) : sProp 𝕄 := iprop(cred (tallyAt (recvCell c p) () N) ∗ atPos ER (recvCell c p) 0 ∅ 0)
/-- A copy received: its cell closed. -/
def recvd (p : Copy) : sProp 𝕄 := semVal (recvCell c p) 0

/-- What is owed before copy number `u`. -/
def owing (u : ℕ) : sProp 𝕄 := iprop(∃ W, owes (c : Thread nD τ) (owedFrom c u) W)

/-! ## Copies started and waited for -/

/-- A copy to device `n`, whose two payloads are the source as it was and the destination rewritten. -/
theorem wp_copy_gen (n : Dev nD) (R : Rounds.Schedule (GSem nD τ sig) Bool 𝕄) [∀ g r d, BI.Storable (upEmb : UEmb _ 𝕄) (R.payload g r d)]
    (src : Memref sig .tc .vmem S128x256 .bf16) (dst : Memref sig (Dev.tc n : Thread nD τ).2.kind .vmem S128x256 .bf16)
    {hsc : dst.view.ref.isScScratch = false} {sS sem : SemLoc sig} {hsrc : src.view.WordExact} {hdst : dst.view.WordExact}
    {hsem : DmaTarget.Typed .vmem sem (.remote (Dev.tc n : Thread nD τ) dst sS hsc)}
    {k : PUnit → KP F PUnit} {Q : PUnit → sProp 𝕄} (κ₁ κ₂ : ℕ)
    (hd₁ : true ∈ R.duties ((c : Thread nD τ), sS) 0) (hd₂ : true ∈ R.duties ((n : Thread nD τ), sem) 0)
    (N₀ : ℕ) (hN : dst.view.amount sem = N₀) (hk₁ : R.amount ((c : Thread nD τ), sS) 0 true = N₀)
    (hk₂ : R.amount ((n : Thread nD τ), sem) 0 true = N₀)
    {O₀ : CellTallies nD τ sig Unit} (O : CellTallies nD τ sig Unit) (hO : O₀ = O + tallyAt ((n : Thread nD τ), sem) () N₀) {W : Waits sig Unit}
    (fs : Buf (Elt F) (src.view.loc (c : Thread nD τ))) (fd : Buf (Elt F) (dst.view.loc (n : Thread nD τ)))
    (h₁ : (src.view.loc (c : Thread nD τ) ↦[src.view.set]{fullShare} fs) ⊢ R.payload ((c : Thread nD τ), sS) 0 true)
    (h₂ : (dst.view.loc (n : Thread nD τ) ↦[dst.view.set]{fullShare} (dst.view.write (Elt F) fd (src.view.read (Elt F) fs) Finset.univ))
      ⊢ R.payload ((n : Thread nD τ), sem) 0 true) :
    iprop(cellInv ER R κ₁ ((c : Thread nD τ), sS) ∗ cellInv ER R κ₂ ((n : Thread nD τ), sem)
        ∗ (src.view.loc (c : Thread nD τ) ↦[src.view.set]{fullShare} fs) ∗ (dst.view.loc (n : Thread nD τ) ↦[dst.view.set]{fullShare} fd)
        ∗ owes (c : Thread nD τ) O₀ W ∗ dutyTok ER ((c : Thread nD τ), sS) 0 true ∗ reached ER ((c : Thread nD τ), sS) 0
        ∗ dutyTok ER ((n : Thread nD τ), sem) 0 true ∗ reached ER ((n : Thread nD τ), sem) 0)
      ⊢ iprop(((cred (tallyAt ((c : Thread nD τ), sS) () N₀) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst sS hsc) sem hsrc hdst hsem) k) Q) :=
  Rounds.wp_send_pointsTo 𝒱₀ ER R (c : Thread nD τ) none (κ₁ := κ₁) (κ₂ := κ₂) (r₁ := 0) (r₂ := 0) (d₁ := true) (d₂ := true) (fd := fd)
    hd₁ hd₂ () () N₀ hN hk₁ hk₂ O hO (W := W) h₁ h₂

/-- A copy addressed to a device `n` that is the neighbour. -/
theorem wp_copy_out (n : Dev nD) (d : Bool) (hn : n = nbr c d) (s : Fin 15) (j : Fin 4)
    {hsc : (slot d s.succ j : Memref sig (Dev.tc n : Thread nD τ).2.kind .vmem S128x256 .bf16).view.ref.isScScratch = false}
    {hsrc : (slot d s.castSucc j).view.WordExact} {hdst : (slot d s.succ j).view.WordExact}
    {hsem : DmaTarget.Typed .vmem (.dma (recvSem d s j))
      (.remote (Dev.tc n : Thread nD τ) (slot d s.succ j : Memref sig (Dev.tc n : Thread nD τ).2.kind .vmem S128x256 .bf16) (.dma (sendSem d s j)) hsc)}
    {k : PUnit → KP F PUnit} {Q : PUnit → sProp 𝕄} (v : Vec F S128x256 .bf16) (O₀ O : CellTallies nD τ sig Unit)
    (hO : O₀ = O + tallyAt (recvCell (nbr c d) (d, s, j)) () N) (W : Waits sig Unit) :
    iprop(cellInv ER (Rd X Wt) (K (c, some (false, d, s, j))) (sendCell c (d, s, j))
        ∗ cellInv ER (Rd X Wt) (K (nbr c d, some (true, d, s, j))) (recvCell (nbr c d) (d, s, j))
        ∗ slotPts c d s.castSucc j (acc X Wt d j s.val c) ∗ slotPts (nbr c d) d s.succ j v
        ∗ owes (c : Thread nD τ) O₀ W
        ∗ dutyTok ER (sendCell c (d, s, j)) 0 true ∗ reached ER (sendCell c (d, s, j)) 0
        ∗ dutyTok ER (recvCell (nbr c d) (d, s, j)) 0 true ∗ reached ER (recvCell (nbr c d) (d, s, j)) 0)
      ⊢ iprop(((cred (tallyAt (sendCell c (d, s, j)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot d s.castSucc j) (.remote (Dev.tc n : Thread nD τ) (slot d s.succ j) (.dma (sendSem d s j)) hsc)
                (.dma (recvSem d s j)) hsrc hdst hsem) k) Q) := by
  subst hn
  have h₁ : ((slot d s.castSucc j).view.loc (c : Thread nD τ) ↦[(slot d s.castSucc j).view.set]{fullShare}
        (slot d s.castSucc j).view.rep (acc X Wt d j s.val c) : sProp 𝕄) ⊢ (Rd X Wt).payload (sendCell c (d, s, j)) 0 true := by
    rw [payload_at X Wt c (some (false, d, s, j)) true]; exact BI.Entails.refl _
  have h₂ : ((slot d s.succ j).view.loc (nbr c d : Thread nD τ) ↦[(slot d s.succ j).view.set]{fullShare}
        (slot d s.succ j).view.write (Elt F) ((slot d s.succ j).view.rep v)
          ((slot d s.castSucc j).view.read (Elt F) ((slot d s.castSucc j).view.rep (acc X Wt d j s.val c))) Finset.univ : sProp 𝕄)
      ⊢ (Rd X Wt).payload (recvCell (nbr c d) (d, s, j)) 0 true := by
    rw [payload_at X Wt (nbr c d) (some (true, d, s, j)) true]
    show _ ⊢ slotPts (nbr c d) d s.succ j (acc X Wt d j s.val (nbr (nbr c d) (!d)))
    rw [nbr_back, View.read_rep]
    refine (pointsTo_rep_entails (nbr c d : Thread nD τ) (slot d s.succ j) _ fullShare).trans (Entails.of_eq ?_)
    rw [View.read_write_univ]; rfl
  have hd₁ : true ∈ (Rd X Wt).duties (sendCell c (d, s, j)) 0 := by
    rw [duties_at X Wt c (some (false, d, s, j))]; exact Finset.mem_singleton_self _
  have hd₂ : true ∈ (Rd X Wt).duties (recvCell (nbr c d) (d, s, j)) 0 := by
    rw [duties_at X Wt (nbr c d) (some (true, d, s, j))]; exact Finset.mem_singleton_self _
  have hN : (slot d s.succ j).view.amount (.dma (recvSem d s j)) = N := slot_credit d s.succ j
  have hk₁ : (Rd X Wt).amount (sendCell c (d, s, j)) 0 true = N := amount_at X Wt c (some (false, d, s, j)) true
  have hk₂ : (Rd X Wt).amount (recvCell (nbr c d) (d, s, j)) 0 true = N := amount_at X Wt (nbr c d) (some (true, d, s, j)) true
  unfold slotPts
  exact wp_copy_gen c (nbr c d) (Rd X Wt) (slot d s.castSucc j) (slot d s.succ j) _ _ hd₁ hd₂ N hN hk₁ hk₂ O hO _ _ h₁ h₂

/-- What is still owed after the copy of step `s`, column block `j`, direction `d` is started. -/
theorem owedFrom_place (s : Fin 15) (j : Fin 4) (d : Bool) :
    owedFrom c (8 * s.val + place j d) = owedFrom c (8 * s.val + place j d + 1) + tallyAt (recvCell (nbr c d) (d, s, j)) () N := by
  have hs := s.isLt; have hj := j.isLt
  have h := owedFrom_step c (8 * s.val + place j d) (by unfold place; split <;> omega)
  rwa [copyAt_place] at h

/-- A copy is started: the partial sum of its step goes out. -/
theorem does_send (s : Fin 15) (j : Fin 4) (d : Bool) :
    Does X Wt K c (send c s j d)
      iprop((slotPts c d s.castSucc j (acc X Wt d j s.val c) ∗ unsent c (d, s, j)) ∗ owing c (8 * s.val + place j d))
      iprop(sent c (d, s, j) ∗ owing c (8 * s.val + place j d + 1)) := fun Q => by
  unfold unsent sent owing send Prog.lift
  iintro ⟨#Hr, ⟨Hs, Ht1, Ht2, Hat, %v, Hn⟩, %W, HO⟩ HQ
  iapply (wp_copy_out X Wt K c _ d (peer_eq c d) s j v _ _ (owedFrom_place c s j d) W) $$ [Hs Ht1 Ht2 Hn HO]
  · isplitr; · iapply (recs_inv X Wt K c _); iexact Hr
    isplitr; · iapply (recs_inv X Wt K (nbr c d) _); iexact Hr
    isplitl [Hs]; · iexact Hs
    isplitl [Hn]; · iexact Hn
    isplitl [HO]; · iexact HO
    isplitl [Ht1]; · iexact Ht1
    isplitr; · iapply (recs_reached X Wt K c _); iexact Hr
    isplitl [Ht2]; · iexact Ht2
    iapply (recs_reached X Wt K (nbr c d) _); iexact Hr
  iintro ⟨Hc, HO⟩
  rw [wp_ret]; imodintro
  iapply HQ
  isplitl [Hc Hat]
  · isplitl [Hc] <;> iassumption
  iexists W; iexact HO

/-- A copy's cell may be waited for below everything still owed. -/
theorem mayWait_key (k : Key) (u : ℕ) (hl : kLevel (some (some k)) < 2 + u / 8) :
    (levAts L lv : sProp 𝕄) ⊢ MayWait (c : Thread nD τ) (osem k) () (owedFrom c u) :=
  mayWait_of_level c (ksem (some k)) (kLevel (some (some k))) u (Nat.le_of_eq (congrArg kLevel (kindOf_ksem (some k)))) hl

/-- A wait on a copy's cell, below everything still owed: what the copy hands over, and the cell closed. -/
theorem wp_await (k : Key) (O : CellTallies nD τ sig Unit)
    (hm : (levAts L lv : sProp 𝕄) ⊢ MayWait (c : Thread nD τ) (osem k) () O) (W : Waits sig Unit) {k' : ℕ} (hk : k' = N)
    {w : TpuEff nD τ sig (Elt F) Λ₀ .tc PUnit} {kont : PUnit → KP F PUnit} {Q : PUnit → sProp 𝕄}
    (hw : ∀ J : PUnit → sProp 𝕄, wpE (defs₀ (F := F)) 𝒱₀ (c : Thread nD τ) none Set.univ w J = waitSpec (c : Thread nD τ) Set.univ (osem k) k' J) :
    iprop(recs X Wt K ∗ cred (tallyAt (kcell c (some k)) () N) ∗ atPos ER (kcell c (some k)) 0 ∅ 0 ∗ owes (c : Thread nD τ) O W)
      ⊢ iprop(((copyPay X Wt c k ∗ semVal (kcell c (some k)) 0 ∗ owes (c : Thread nD τ) O (insert (osem k, ()) W))
            -∗ wp frame (wpE (defs₀ (F := F)) 𝒱₀ (c : Thread nD τ) none) Set.univ (kont ⟨⟩) Q)
          -∗ wp frame (wpE (defs₀ (F := F)) 𝒱₀ (c : Thread nD τ) none) Set.univ (.op w kont) Q) := by
  subst hk
  have hm' : recs X Wt K ⊢ MayWait (c : Thread nD τ) (osem k) () O := recs_mayWait X Wt K c _ O hm
  iintro ⟨#Hr, Hc, Hat, HO⟩ HQ
  iapply (Rounds.wp_wait_rest_token 𝒱₀ ER (Rd X Wt) (c : Thread nD τ) none (κ := K (c, some k))
      hw (Set.mem_univ _) () (O := O) (W := W) (R := 0) (m := 0) (T := ∅)
      (by rw [Nat.zero_add]; exact (expect_copy X Wt c k).symm)) $$ [Hc HO Hat]
  · isplitr; · iapply (recs_inv X Wt K c _); iexact Hr
    isplitl [Hc]; · iexact Hc
    isplitl [HO]; · iexact HO
    isplitr
    · iapply hm'; iexact Hr
    iexact Hat
  iintro ⟨HO, Hat, -, Hpay⟩
  imod (Rounds.cell_close ER (Rd X Wt) (Set.mem_univ (K (c, some k))) (fun h => h) (R := 0 + 1) (duties_later X Wt (kcell c (some k)))) $$ [Hat] with Hz
  · isplitr; · iapply (recs_inv X Wt K c _); iexact Hr
    iexact Hat
  iapply HQ
  isplitl [Hpay]
  · iapply (Entails.of_eq (rest_copy X Wt c k)); iexact Hpay
  isplitl [Hz] <;> iassumption

/-- At the end every copy's slot comes back. -/
theorem does_waitSend (s : Fin 15) (j : Fin 4) (d : Bool) :
    Does X Wt K c (waitSend s j d) iprop(sent c (d, s, j) ∗ owing c 120) iprop(back c (d, s, j) ∗ owing c 120) := fun Q => by
  unfold sent back owing waitSend Prog.lift
  rw [owedFrom_end]
  iintro ⟨#Hr, ⟨Hc, Hat⟩, %W, HO⟩ HQ
  iapply (wp_await X Wt K c (false, d, s, j) 0 (by rw [MayWait_zero]; iintro -; iempintro) W (slot_credit d s.castSucc j)
    (wpE_waitDma2_eq 𝒱₀ (c : Thread nD τ) none Set.univ)) $$ [Hc Hat HO]
  · isplitr; · iexact Hr
    isplitl [Hc]; · iexact Hc
    isplitl [Hat]; · iexact Hat
    iexact HO
  iintro ⟨Hp, Hz, HO⟩
  rw [wp_ret]; imodintro
  iapply HQ
  unfold copyPay
  isplitl [Hp Hz]
  · isplitl [Hz]; · iexact Hz
    iexists _; iexact Hp
  iexists _; iexact HO

end Cert.KernelIdeal.Flow

end
-- ==== Proof.KernelIdeal.Steps.lean ====
/-
# The ring steps

What the handshake, the first product, one ring step on one column block and the last one do; and how the loop nest is put
together from them.
-/
module

public import proofs.«01_k».proof.Proof.KernelIdeal.Moves

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable (X : Dev nD → Vec F S2048x128 .bf16) (Wt : Dev nD → Vec F S128x2048 .bf16) (K : Dev nD × Option Key → ℕ) (c : Dev nD)

/-! ## The handshake -/

/-- What the handshake spends: the two duties it pays, the device's place at its own barrier and the right to wait there, and
    its own landing slots. -/
def shake : sProp 𝕄 :=
  iprop(dutyTok ER (barCell (nbr c false)) 0 true ∗ dutyTok ER (barCell (nbr c true)) 0 false ∗ atPos ER (barCell c) 0 ∅ 0
    ∗ cred (tallyAt (barCell c) () 2) ∗ landing c true ∗ landing c false)

theorem does_handshake :
    Does X Wt K c (handshake c) iprop(shake c ∗ ∃ W, owes (c : Thread nD τ) (owed₀ c) W)
      iprop((landing (nbr c true) true ∗ landing (nbr c false) false) ∗ semVal (barCell c) 0 ∗ owing c 0) := fun Q => by
  have pay₁ : landing (F := F) c true ⊢ (Rd X Wt).payload (barCell (nbr c false)) 0 true := by
    rw [payload_at X Wt (nbr c false) none true]
    show _ ⊢ landing (nbr (nbr c false) true) true
    rw [show nbr (nbr c false) true = c from nbr_back c false]
  have pay₂ : landing (F := F) c false ⊢ (Rd X Wt).payload (barCell (nbr c true)) 0 false := by
    rw [payload_at X Wt (nbr c true) none false]
    show _ ⊢ landing (nbr (nbr c true) false) false
    rw [show nbr (nbr c true) false = c from nbr_back c true]
  have hm : recs X Wt K ⊢ MayWait (c : Thread nD τ) (.reg barS) () (owedFrom c 0) :=
    recs_mayWait X Wt K c _ _ (mayWait_of_level c (ksem none) 1 0 (Nat.le_of_eq (congrArg kLevel (kindOf_ksem none))) (by decide))
  unfold handshake shake owing
  simp only [semSignalWord, semWaitWord, Prog.lift, Prog.bind_op, Prog.bind_ret, sig1_eq c, sig2_eq c]
  unfold owed₀ owed₁
  generalize owedFrom c 0 = O at *
  iintro ⟨#Hr, ⟨Ht1, Ht2, Hat, Hc, HL1, HL2⟩, %W, HO⟩ HQ
  iapply (Rounds.wp_signal 𝒱₀ ER (Rd X Wt) (c : Thread nD τ) none (dst := (nbr c false : Thread nD τ)) (κ := K (nbr c false, none))
      (d := true) (by rw [duties_at X Wt (nbr c false) none]; exact Finset.mem_univ _)
      ((amount_at X Wt (nbr c false) none true).trans (by decide)) () (O + tallyAt (barCell (nbr c true)) () 1) rfl) $$ [HO Ht1 HL1]
  · isplitr; · iapply (recs_inv X Wt K (nbr c false) none); iexact Hr
    isplitl [HO]; · iexact HO
    isplitl [Ht1]; · iexact Ht1
    isplitl [HL1]; · iapply pay₁; iexact HL1
    iapply (recs_reached X Wt K (nbr c false) none); iexact Hr
  iintro HO
  iapply (Rounds.wp_signal 𝒱₀ ER (Rd X Wt) (c : Thread nD τ) none (dst := (nbr c true : Thread nD τ)) (κ := K (nbr c true, none))
      (d := false) (by rw [duties_at X Wt (nbr c true) none]; exact Finset.mem_univ _)
      ((amount_at X Wt (nbr c true) none false).trans (by decide)) () O rfl) $$ [HO Ht2 HL2]
  · isplitr; · iapply (recs_inv X Wt K (nbr c true) none); iexact Hr
    isplitl [HO]; · iexact HO
    isplitl [Ht2]; · iexact Ht2
    isplitl [HL2]; · iapply pay₂; iexact HL2
    iapply (recs_reached X Wt K (nbr c true) none); iexact Hr
  iintro HO
  iapply (Rounds.wp_wait_rest_token 𝒱₀ ER (Rd X Wt) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iapply (recs_inv X Wt K c none); iexact Hr
    isplitl [Hc]; · iexact Hc
    isplitl [HO]; · iexact HO
    isplitr; · iapply hm; iexact Hr
    iexact Hat
  iintro ⟨HO, Hat, -, Hpay⟩
  imod (Rounds.cell_close ER (Rd X Wt) (Set.mem_univ (K (c, none))) (fun h => h) (R := 0 + 1) (duties_later X Wt (barCell c))) $$ [Hat] with Hz
  · isplitr; · iapply (recs_inv X Wt K c none); iexact Hr
    iexact Hat
  rw [wp_ret]; imodintro
  iapply HQ
  isplitl [Hpay]
  · iapply (Entails.of_eq (rest_bar X Wt c)); iexact Hpay
  isplitl [Hz]; · iexact Hz
  iexists _; iexact HO

/-! ## The products -/

/-- The two inputs as staged. -/
def ins : sProp 𝕄 :=
  iprop((xM.view.loc (c : Thread nD τ) ↦{fullShare} X c) ∗ (wM.view.loc (c : Thread nD τ) ↦{fullShare} Wt c))

theorem does_first (d : Bool) :
    Does X Wt K c (first c d) iprop(ins X Wt c ∗ ∃ f, firstPts c d f)
      iprop(ins X Wt c ∗ bigSep Finset.univ fun j : Fin 4 => slotPts c d 0 j (acc X Wt d j 0 c)) := fun Q => by
  unfold first ins
  simp only [Prog.lift, Prog.bind_op, Prog.bind_ret]
  iintro ⟨#Hr, ⟨Hx, Hw⟩, %f, Hf⟩ HQ
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  unfold firstPts
  iapply (wp_load_rect 𝒱₀ (c : Thread nD τ) none Set.univ (m := comm d) (r := firstRect) (Finset.Subset.refl _)) $$ Hf; iintro Hf
  iapply (wp_store 𝒱₀ (c : Thread nD τ) none Set.univ (m := comm d) (r := firstRect) (Mk := Finset.univ)
    (S := ((comm d).access firstRect).set) (by rw [View.setOn_univ])) $$ Hf; iintro Hf
  rw [wp_ret]; imodintro
  iapply HQ
  isplitl [Hx Hw]
  · isplitl [Hx] <;> iassumption
  iapply (first_split c d f (prodB (rows₀ X c d) (half Wt c d)))
  unfold firstPts
  iexact Hf

/-- The two factors of a step are read, and the program goes on with them. -/
theorem does_factors (s : Fin 15) (k : (Bool → Vec F S128x128 .bf16) → (Bool → Vec F S128x1024 .bf16) → KP F PUnit) (P R : sProp 𝕄)
    (h : Does X Wt K c (k (rows X c s) (half Wt c)) P R) :
    Does X Wt K c (factors c s k) iprop(ins X Wt c ∗ P) iprop(ins X Wt c ∗ R) := fun Q => by
  unfold factors ins
  simp only [Prog.lift, Prog.bind_op, Prog.bind_ret]
  iintro ⟨#Hr, ⟨Hx, Hw⟩, HP⟩ HQ
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  have ha : (fun d : Bool => cond d (xM.view.readAt (Elt F) (xRect c s true).toLoadRect (X c))
      (xM.view.readAt (Elt F) (xRect c s false).toLoadRect (X c))) = rows X c s := funext fun d => by cases d <;> rfl
  have hb : (fun d : Bool => cond d (wM.view.readAt (Elt F) (wRect true).toLoadRect (Wt c))
      (wM.view.readAt (Elt F) (wRect false).toLoadRect (Wt c))) = half Wt c := funext fun d => by cases d <;> rfl
  rw [ha, hb]
  iapply (h Q) $$ [HP]
  · isplitr; · iexact Hr
    iexact HP
  iintro HR
  iapply HQ
  isplitl [Hx Hw]
  · isplitl [Hx] <;> iassumption
  iexact HR

/-! ## One ring step on one column block -/

theorem slotPts_elems (d : Bool) (k : Fin 16) (j : Fin 4) (v : Vec F S128x256 .bf16) :
    slotPts c d k j v = ((comm d).view.loc (c : Thread nD τ) ↦[elems d k j]{fullShare} (slot d k j).view.rep v : sProp 𝕄) := by
  unfold slotPts; rw [slot_set]

/-- What a receive hands over is the slot with the neighbour's partial sum. -/
theorem came (d : Bool) (s : Fin 15) (j : Fin 4) :
    copyPay X Wt c (true, d, s, j) ⊢ ((comm d).view.loc (c : Thread nD τ) ↦[elems d s.succ j]{fullShare}
      (slot d s.succ j).view.rep (acc X Wt d j s.val (nbr c (!d))) : sProp 𝕄) :=
  BIBase.Entails.of_eq (slotPts_elems c d s.succ j _)

/-- A received block plus the own product. -/
theorem addB_slot (d : Bool) (k : Fin 16) (j : Fin 4) (p : FVec F S128x1024 .bf16) (v : Vec F S128x256 .bf16) :
    addB j p ((comm d).view.readAt (Elt F) (slotRect k j).toLoadRect ((slot d k j).view.rep v))
      = shapeCast S1x128x256 (addf (cols j p) v) shapeCasts_S128x256_S1x128x256 := by
  unfold addB cols
  rw [slot_readAt]
theorem addF_slot (d : Bool) (k : Fin 16) (j : Fin 4) (p : FVec F S128x1024 .f32) (v : Vec F S128x256 .bf16) :
    addF j p ((comm d).view.readAt (Elt F) (slotRect k j).toLoadRect ((slot d k j).view.rep v))
      = addf (cols j p) (extf .f32 v bitsLt_bf16_f32) := by
  unfold addF cols
  rw [slot_readAt]

theorem does_pass (s : Fin 14) (j : Fin 4) (d : Bool) :
    Does X Wt K c (pass c s j d (prodB (rows X c s.castSucc d) (half Wt c d)))
      iprop((unrecv c (d, s.castSucc, j) ∗ unsent c (d, s.succ, j)) ∗ owing c (8 * s.succ.val + place j d))
      iprop((recvd c (d, s.castSucc, j) ∗ sent c (d, s.succ, j)) ∗ owing c (8 * s.succ.val + place j d + 1)) := fun Q => by
  have hs := s.isLt
  have hm := mayWait_key (F := F) c (true, d, s.castSucc, j) (8 * s.succ.val + place j d)
    (by show 2 + s.val < 2 + (8 * (s.val + 1) + place j d) / 8; omega)
  have hacc : addf (cols j (prodB (rows X c s.castSucc d) (half Wt c d))) (acc X Wt d j s.castSucc.val (nbr c (!d))) = acc X Wt d j s.succ.val c := by
    show _ = addf (cols j (prodB (rows X c (Fin.ofNat 15 s.val) d) (half Wt c d))) _
    rw [show Fin.ofNat 15 s.val = s.castSucc from Fin.ext (Nat.mod_eq_of_lt (by omega))]; rfl
  have hsend := does_send X Wt K c s.succ j d Q
  unfold unrecv recvd pass waitRecv
  simp only [Prog.lift, Prog.bind_op, Prog.bind_ret]
  unfold owing at hsend ⊢
  generalize owedFrom c (8 * s.succ.val + place j d) = O at *
  iintro ⟨#Hr, ⟨⟨Hc, Hat⟩, Hun⟩, %W, HO⟩ HQ
  iapply (wp_await X Wt K c (true, d, s.castSucc, j) O hm W (slot_credit d s.castSucc.succ j)
    (wpE_waitDma2_eq 𝒱₀ (c : Thread nD τ) none Set.univ)) $$ [Hc Hat HO]
  · isplitr; · iexact Hr
    isplitl [Hc]; · iexact Hc
    isplitl [Hat]; · iexact Hat
    iexact HO
  iintro ⟨Hp, Hz, HO⟩
  ihave Hs := (came X Wt c d s.castSucc j) $$ Hp
  iapply (wp_load 𝒱₀ (c : Thread nD τ) none Set.univ (m := comm d) (r := (slotRect s.castSucc.succ j).toLoadRect)
    (S := elems d s.castSucc.succ j) (Finset.Subset.refl _)) $$ Hs; iintro Hs
  iapply (wp_load 𝒱₀ (c : Thread nD τ) none Set.univ (m := comm d) (r := (slotRect s.castSucc.succ j).toLoadRect)
    (S := elems d s.castSucc.succ j) (Finset.Subset.refl _)) $$ Hs; iintro Hs
  rw [addB_slot, hacc]
  iapply (wp_store 𝒱₀ (c : Thread nD τ) none Set.univ (m := comm d) (r := slotRect s.castSucc.succ j) (Mk := Finset.univ)
    (by rw [View.setOn_univ, access_set])) $$ Hs; iintro Hs
  ihave Hs := (slot_stored c d s.castSucc.succ j _ _) $$ Hs
  iapply hsend $$ [Hs Hun HO]
  · isplitr; · iexact Hr
    isplitl [Hs Hun]
    · isplitl [Hs]; · iexact Hs
      iexact Hun
    iexists _; iexact HO
  iintro ⟨Hsent, HO⟩
  iapply HQ
  isplitl [Hz Hsent]
  · isplitl [Hz]; · iexact Hz
    iexact Hsent
  iexact HO

/-! ## The last step on one column block -/

/-- The part of the result that direction `d`, column block `j` writes, as a 128 by 256 view. -/
abbrev outPart (d : Bool) (j : Fin 4) : Memref sig .tc .vmem S128x256 .f32 := oM.slice (outRect d j) (fun _ => rfl)
/-- That part holding anything; -/
def outAny (d : Bool) (j : Fin 4) : sProp 𝕄 :=
  iprop(∃ f, oM.view.loc (c : Thread nD τ) ↦[(oM.access (outRect d j)).set]{fullShare} f)
/-- that part holding `v`. -/
def outPts (d : Bool) (j : Fin 4) (v : FVec F S128x256 .f32) : sProp 𝕄 :=
  (outPart d j).view.loc (c : Thread nD τ) ↦[(outPart d j).view.set]{fullShare} (outPart d j).view.rep v

theorem out_stored (d : Bool) (j : Fin 4) (f : Buf (Elt F) (oM.view.loc (c : Thread nD τ))) (w : FVec F S128x256 .f32) :
    (oM.view.loc (c : Thread nD τ) ↦[(oM.access (outRect d j)).set]{fullShare} ((oM.access (outRect d j)).write (Elt F) f w Finset.univ) : sProp 𝕄)
      ⊢ outPts c d j w := by
  refine (pointsTo_rep_entails (c : Thread nD τ) (outPart d j) _ fullShare).trans (Entails.of_eq ?_)
  unfold outPts
  rw [show (outPart d j).view.read (Elt F) ((oM.access (outRect d j)).write (Elt F) f w Finset.univ) = w from
    View.read_write_univ (v := oM.access (outRect d j)) _ _]

theorem does_finish (j : Fin 4) (d : Bool) :
    Does X Wt K c (finish j d (prodF (rows X c 14 d) (half Wt c d)))
      iprop((unrecv c (d, 14, j) ∗ outAny c d j) ∗ owing c 120)
      iprop((recvd c (d, 14, j) ∗ (∃ v, slotPts c d 15 j v) ∗ outPts c d j (res X Wt c d j)) ∗ owing c 120) := fun Q => by
  unfold unrecv recvd outAny owing finish waitRecv
  simp only [Prog.lift, Prog.bind_op, Prog.bind_ret]
  rw [owedFrom_end]
  iintro ⟨#Hr, ⟨⟨Hc, Hat⟩, %g, Hout⟩, %W, HO⟩ HQ
  iapply (wp_await X Wt K c (true, d, 14, j) 0 (by rw [MayWait_zero]; iintro -; iempintro) W (slot_credit d (14 : Fin 15).succ j)
    (wpE_waitDma2_eq 𝒱₀ (c : Thread nD τ) none Set.univ)) $$ [Hc Hat HO]
  · isplitr; · iexact Hr
    isplitl [Hc]; · iexact Hc
    isplitl [Hat]; · iexact Hat
    iexact HO
  iintro ⟨Hp, Hz, HO⟩
  ihave Hs := (show copyPay X Wt c (true, d, 14, j) ⊢ ((comm d).view.loc (c : Thread nD τ) ↦[elems d 15 j]{fullShare}
      (slot d 15 j).view.rep (acc X Wt d j 14 (nbr c (!d))) : sProp 𝕄) from came X Wt c d 14 j) $$ Hp
  iapply (wp_load 𝒱₀ (c : Thread nD τ) none Set.univ (m := comm d) (r := (slotRect 15 j).toLoadRect)
    (S := elems d 15 j) (Finset.Subset.refl _)) $$ Hs; iintro Hs
  iapply (wp_load_rect 𝒱₀ (c : Thread nD τ) none Set.univ (m := oM) (r := outRect d j) (Finset.Subset.refl _)) $$ Hout; iintro Hout
  rw [addF_slot]
  iapply (wp_store 𝒱₀ (c : Thread nD τ) none Set.univ (m := oM) (r := outRect d j) (Mk := Finset.univ)
    (S := (oM.access (outRect d j)).set) (by rw [View.setOn_univ])) $$ Hout; iintro Hout
  rw [wp_ret]; imodintro
  iapply HQ
  isplitl [Hz Hs Hout]
  · isplitl [Hz]; · iexact Hz
    isplitl [Hs]
    · iexists _; iapply (Entails.of_eq (slotPts_elems c d 15 j (acc X Wt d j 14 (nbr c (!d)))).symm); iexact Hs
    iapply (out_stored c d j g (res X Wt c d j)); iexact Hout
  iexists _; iexact HO

end Cert.KernelIdeal.Flow

end
-- ==== Proof.KernelIdeal.Nest.lean ====
/-
# The loop nest

What the body leads to, put together from its parts: what is done step by step is kept in `prog`, which holds the state after a step
for the steps already taken and the state before it for the others.
-/
module

public import proofs.«01_k».proof.Proof.KernelIdeal.Steps

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable {X : Dev nD → Vec F S2048x128 .bf16} {Wt : Dev nD → Vec F S128x2048 .bf16} {K : Dev nD × Option Key → ℕ} {c : Dev nD}

/-! ## Rules for `Does` -/

/-- More may be given, less asked for. -/
theorem Does.conseq {p : KP F PUnit} {P P' R R' : sProp 𝕄} (h : Does X Wt K c p P R) (hp : P' ⊢ P) (hr : R ⊢ R') :
    Does X Wt K c p P' R' := fun Q => by
  iintro ⟨#Hr, HP⟩ HQ
  iapply (h Q) $$ [HP]
  · isplitr; · iexact Hr
    iapply hp; iexact HP
  iintro HR; iapply HQ; iapply hr; iexact HR
/-- What is not used stays. -/
theorem Does.frame {p : KP F PUnit} {P R : sProp 𝕄} (h : Does X Wt K c p P R) (Z : sProp 𝕄) :
    Does X Wt K c p iprop(P ∗ Z) iprop(R ∗ Z) := fun Q => by
  iintro ⟨#Hr, HP, HZ⟩ HQ
  iapply (h Q) $$ [HP]
  · isplitr; · iexact Hr
    iexact HP
  iintro HR; iapply HQ
  isplitl [HR] <;> iassumption
/-- One after the other. -/
theorem Does.seq {p q : KP F PUnit} {P S R : sProp 𝕄} (h : Does X Wt K c p P S) (h' : Does X Wt K c q S R) :
    Does X Wt K c (p >>= fun _ => q) P R := fun Q => by
  rw [wp_bind]
  iintro ⟨#Hr, HP⟩ HQ
  iapply (h _) $$ [HP]
  · isplitr; · iexact Hr
    iexact HP
  iintro HS
  iapply (h' Q) $$ [HS]
  · isplitr; · iexact Hr
    iexact HS
  iexact HQ
/-- One after the other, each with its own part and a common one. -/
theorem Does.cons {p q : KP F PUnit} {A As B Bs I I' I'' : sProp 𝕄} (h : Does X Wt K c p iprop(A ∗ I) iprop(B ∗ I'))
    (h' : Does X Wt K c q iprop(As ∗ I') iprop(Bs ∗ I'')) :
    Does X Wt K c (p >>= fun _ => q) iprop((A ∗ As) ∗ I) iprop((B ∗ Bs) ∗ I'') :=
  ((h.frame As).conseq (by iintro ⟨⟨H1, H2⟩, H3⟩; isplitl [H1 H3]; · (isplitl [H1] <;> iassumption)
                           iexact H2) (BI.Entails.refl _)).seq
    ((h'.frame B).conseq (by iintro ⟨⟨H1, H2⟩, H3⟩; isplitl [H3 H2]; · (isplitl [H3] <;> iassumption)
                             iexact H1)
      (by iintro ⟨⟨H1, H2⟩, H3⟩; isplitl [H1 H3]; · (isplitl [H3] <;> iassumption)
          iexact H2))

/-- The four column blocks, both directions each: every one takes its own part and moves the common one a place further. -/
theorem does_blocks {f : Fin 4 → Bool → KP F PUnit} {A B : Fin 4 × Bool → sProp 𝕄} {I : ℕ → sProp 𝕄}
    (h : ∀ j d, Does X Wt K c (f j d) iprop(A (j, d) ∗ I (place j d)) iprop(B (j, d) ∗ I (place j d + 1))) :
    Does X Wt K c (blocks f) iprop(bigSep Finset.univ A ∗ I 0) iprop(bigSep Finset.univ B ∗ I 8) := by
  have e := fun Φ : Fin 4 × Bool → sProp 𝕄 => bigSep_univ_eq_bigSepL
    [(0, true), (0, false), (1, true), (1, false), (2, true), (2, false), (3, true), (3, false)] (by decide) (by decide) Φ
  rw [e A, e B]
  exact (h 0 true).cons <| (h 0 false).cons <| (h 1 true).cons <| (h 1 false).cons <| (h 2 true).cons <| (h 2 false).cons <|
    (h 3 true).cons (h 3 false)

/-- A loop with an invariant. -/
theorem does_upFrom {N : ℕ} {f : Fin N → KP F PUnit} {I : ℕ → sProp 𝕄}
    (h : ∀ s : Fin N, Does X Wt K c (f s) (I s.val) (I (s.val + 1))) :
    ∀ (n k : ℕ) (hk : k + n = N), Does X Wt K c (upFrom f n k hk) (I k) (I N)
  | 0, k, hk => fun Q => by
    obtain rfl : k = N := hk
    unfold upFrom
    rw [Prog.pure_eq_ret, wp_ret]
    iintro ⟨-, HI⟩ HQ; imodintro; iapply HQ; iexact HI
  | n + 1, k, hk => by unfold upFrom; exact (h ⟨k, by omega⟩).seq (does_upFrom h n (k + 1) (by omega))

/-! ## Progress -/

/-- `B` for the first `k`, `A` for the others. -/
def prog {n : ℕ} (A B : Fin n → sProp 𝕄) (k : ℕ) : sProp 𝕄 := bigSep Finset.univ fun s : Fin n => if s.val < k then B s else A s
/-- All but number `s`. -/
def others {n : ℕ} (A B : Fin n → sProp 𝕄) (s : Fin n) : sProp 𝕄 := bigSep (Finset.univ.erase s) fun t : Fin n => if t.val < s.val then B t else A t

theorem prog_zero {n : ℕ} (A B : Fin n → sProp 𝕄) : prog A B 0 = bigSep Finset.univ A := bigSep_congr fun s _ => if_neg (Nat.not_lt_zero _)
theorem prog_full {n : ℕ} (A B : Fin n → sProp 𝕄) : prog A B n = bigSep Finset.univ B := bigSep_congr fun s _ => if_pos s.isLt
theorem prog_before {n : ℕ} (A B : Fin n → sProp 𝕄) (s : Fin n) : prog A B s.val = iprop(A s ∗ others A B s) := by
  unfold prog others
  rw [bigSep_univ_split s, if_neg (Nat.lt_irrefl _)]; rfl
theorem prog_after {n : ℕ} (A B : Fin n → sProp 𝕄) (s : Fin n) : prog A B (s.val + 1) = iprop(B s ∗ others A B s) := by
  unfold prog others
  rw [bigSep_univ_split s, if_pos (Nat.lt_succ_self _)]
  congr 1
  refine bigSep_congr fun t ht => ?_
  have hn : t.val ≠ s.val := fun e => (Finset.mem_erase.mp ht).1 (Fin.ext e)
  by_cases h : t.val < s.val
  · rw [if_pos h, if_pos (by omega)]
  · rw [if_neg h, if_neg (by omega)]

/-- One step's copies. -/
def atStep (Φ : Copy → sProp 𝕄) (s : Fin 15) : sProp 𝕄 := bigSep Finset.univ fun jd : Fin 4 × Bool => Φ (jd.2, s, jd.1)
/-- All the copies, step by step. -/
theorem by_step (Φ : Copy → sProp 𝕄) : bigSep Finset.univ Φ = bigSep Finset.univ (atStep Φ) := by
  unfold atStep
  rw [← bigSep_univ_prod (fun p : Fin 15 × (Fin 4 × Bool) => Φ (p.2.2, p.1, p.2.1)),
    bigSep_univ_equiv (⟨fun p => (p.2.2, p.1, p.2.1), fun q => (q.2.1, q.2.2, q.1), fun _ => rfl, fun _ => rfl⟩ :
      Fin 15 × (Fin 4 × Bool) ≃ Copy) Φ]
  rfl

variable (X Wt c)

/-- How far sending and receiving have got. -/
abbrev sending (c : Dev nD) (k : ℕ) : sProp 𝕄 := prog (atStep (unsent c)) (atStep (sent c)) k
abbrev receiving (c : Dev nD) (k : ℕ) : sProp 𝕄 := prog (atStep (unrecv c)) (atStep (recvd c)) k
abbrev reading (c : Dev nD) (k : ℕ) : sProp 𝕄 := prog (atStep (sent c)) (atStep (back c)) k

/-- Between the steps: the inputs, `r` steps received, one more sent. -/
def between (r : ℕ) : sProp 𝕄 := iprop(ins X Wt c ∗ receiving c r ∗ sending c (r + 1) ∗ owing c (8 * (r + 1)))

variable (K)

/-- The first eight copies. -/
theorem does_sends :
    Does X Wt K c (blocks fun j d => send c 0 j d)
      iprop((bigSep Finset.univ fun jd : Fin 4 × Bool => slotPts c jd.2 0 jd.1 (acc X Wt jd.2 jd.1 0 c)) ∗ sending c 0 ∗ owing c 0)
      iprop(sending c 1 ∗ owing c 8) := by
  rw [show sending c 0 = _ from prog_before (atStep (unsent c)) (atStep (sent c)) 0,
    show sending c 1 = _ from prog_after (atStep (unsent c)) (atStep (sent c)) 0]
  refine ((does_blocks (A := fun jd => iprop(slotPts c jd.2 0 jd.1 (acc X Wt jd.2 jd.1 0 c) ∗ unsent c (jd.2, 0, jd.1)))
    (B := fun jd => sent c (jd.2, 0, jd.1)) (I := fun n => owing c (8 * (0 : Fin 15).val + n))
    fun j d => does_send X Wt K c 0 j d).frame (others (atStep (unsent c)) (atStep (sent c)) 0)).conseq ?_ ?_
  · rw [bigSep_sep']
    unfold atStep
    iintro ⟨H1, ⟨H2, H3⟩, H4⟩
    isplitr [H3]
    · isplitr [H4]
      · isplitl [H1] <;> iassumption
      · iexact H4
    iexact H3
  · unfold atStep
    iintro ⟨⟨H1, H2⟩, H3⟩
    isplitr [H2]
    · isplitl [H1] <;> iassumption
    iexact H2

/-- One of the fourteen middle steps. -/
theorem does_step (s : Fin 14) : Does X Wt K c (step c s) (between X Wt c s.val) (between X Wt c (s.val + 1)) := by
  unfold between step
  refine does_factors X Wt K c s.castSucc _ _ _ ?_
  rw [show receiving c s.val = _ from prog_before (atStep (unrecv c)) (atStep (recvd c)) s.castSucc,
    show receiving c (s.val + 1) = _ from prog_after (atStep (unrecv c)) (atStep (recvd c)) s.castSucc,
    show sending c (s.val + 1) = _ from prog_before (atStep (unsent c)) (atStep (sent c)) s.succ,
    show sending c (s.val + 1 + 1) = _ from prog_after (atStep (unsent c)) (atStep (sent c)) s.succ]
  refine ((does_blocks (A := fun jd => iprop(unrecv c (jd.2, s.castSucc, jd.1) ∗ unsent c (jd.2, s.succ, jd.1)))
    (B := fun jd => iprop(recvd c (jd.2, s.castSucc, jd.1) ∗ sent c (jd.2, s.succ, jd.1))) (I := fun n => owing c (8 * s.succ.val + n))
    fun j d => does_pass X Wt K c s j d).frame iprop(others (atStep (unrecv c)) (atStep (recvd c)) s.castSucc
      ∗ others (atStep (unsent c)) (atStep (sent c)) s.succ)).conseq ?_ ?_
  · rw [bigSep_sep']
    unfold atStep
    iintro ⟨⟨H1, H2⟩, ⟨H3, H4⟩, H5⟩
    isplitl [H1 H3 H5]
    · isplitr [H5]
      · isplitl [H1] <;> iassumption
      · iexact H5
    isplitl [H2] <;> iassumption
  · rw [bigSep_sep']
    unfold atStep
    iintro ⟨⟨⟨H1, H3⟩, H5⟩, H2, H4⟩
    isplitl [H1 H2]
    · isplitl [H1] <;> iassumption
    isplitl [H3 H4]
    · isplitl [H3] <;> iassumption
    iexact H5

/-- The last step. -/
theorem does_last :
    Does X Wt K c (last c)
      iprop(ins X Wt c ∗ receiving c 14 ∗ (bigSep Finset.univ fun jd : Fin 4 × Bool => outAny c jd.2 jd.1) ∗ owing c 120)
      iprop(ins X Wt c ∗ receiving c 15
        ∗ ((bigSep Finset.univ fun jd : Fin 4 × Bool => iprop(∃ v, slotPts c jd.2 15 jd.1 v))
          ∗ bigSep Finset.univ fun jd : Fin 4 × Bool => outPts c jd.2 jd.1 (res X Wt c jd.2 jd.1))
        ∗ owing c 120) := by
  unfold last
  refine does_factors X Wt K c 14 _ _ _ ?_
  rw [show receiving c 14 = _ from prog_before (atStep (unrecv c)) (atStep (recvd c)) 14,
    show receiving c 15 = _ from prog_after (atStep (unrecv c)) (atStep (recvd c)) 14]
  refine ((does_blocks (A := fun jd => iprop(unrecv c (jd.2, 14, jd.1) ∗ outAny c jd.2 jd.1))
    (B := fun jd => iprop(recvd c (jd.2, 14, jd.1) ∗ (∃ v, slotPts c jd.2 15 jd.1 v) ∗ outPts c jd.2 jd.1 (res X Wt c jd.2 jd.1)))
    (I := fun _ => owing c 120)
    fun j d => does_finish X Wt K c j d).frame (others (atStep (unrecv c)) (atStep (recvd c)) 14)).conseq ?_ ?_
  · rw [bigSep_sep']
    unfold atStep
    iintro ⟨⟨H1, H2⟩, H3, H4⟩
    isplitr [H2]
    · isplitr [H4]
      · isplitl [H1] <;> iassumption
      · iexact H4
    iexact H2
  · rw [bigSep_sep', bigSep_sep']
    unfold atStep
    iintro ⟨⟨⟨H1, H3⟩, H4⟩, H2⟩
    isplitl [H1 H2]
    · isplitl [H1] <;> iassumption
    isplitl [H3] <;> iassumption

/-- The waits for the copies' reading out. -/
theorem does_waits :
    Does X Wt K c (upFrom (fun s : Fin 15 => blocks fun j d => waitSend s j d) 15 0 rfl)
      iprop(reading c 0 ∗ owing c 120) iprop(reading c 15 ∗ owing c 120) := by
  refine does_upFrom (I := fun k => iprop(reading c k ∗ owing c 120)) (fun s => ?_) 15 0 rfl
  rw [show reading c s.val = _ from prog_before (atStep (sent c)) (atStep (back c)) s,
    show reading c (s.val + 1) = _ from prog_after (atStep (sent c)) (atStep (back c)) s]
  refine ((does_blocks (A := fun jd => sent c (jd.2, s, jd.1)) (B := fun jd => back c (jd.2, s, jd.1)) (I := fun _ => owing c 120)
    fun j d => does_waitSend X Wt K c s j d).frame (others (atStep (sent c)) (atStep (back c)) s)).conseq ?_ ?_
  all_goals
    unfold atStep
    iintro H
    icases H with ⟨⟨H1, H2⟩, H3⟩
    isplitl [H1 H3] <;> first | (isplitl [H1] <;> iassumption) | skip
    iassumption

end Cert.KernelIdeal.Flow

end
-- ==== Proof.KernelIdeal.Out.lean ====
/-
# The result array

The eight parts of the result (two directions, four column blocks each) are the array; holding its part at what each ends with is
holding the array at `outC`.
-/
module

public import proofs.«01_k».proof.Proof.KernelIdeal.Nest

@[expose] public section

noncomputable section

namespace Cert.KernelIdeal.Flow

open Cert.KernelIdeal Cert.KernelIdeal.Gen
open Idealize.ShloMosaic Idealize.ShloMosaic.TcCoe Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

variable (X : Dev nD → Vec F S2048x128 .bf16) (Wt : Dev nD → Vec F S128x2048 .bf16) (c : Dev nD)

/-- The elements of one part. -/
abbrev outElems (jd : Fin 4 × Bool) : Finset S128x2048.Idx := (oM.access (outRect jd.2 jd.1)).set

theorem outRect_mem (jd : Fin 4 × Bool) (x : S128x2048.Idx) :
    x ∈ outElems jd ↔ colBase jd.2 + 256 * jd.1.val ≤ (x 1).val ∧ (x 1).val < colBase jd.2 + 256 * jd.1.val + 256 := by
  unfold outElems
  rw [show (oM.access (outRect jd.2 jd.1)).set = (outRect jd.2 jd.1).set from View.set_slice_whole _ _, Rect.mem_set_unit]
  constructor
  · intro h; exact h 1
  · intro h a
    match a with
    | ⟨0, _⟩ => exact ⟨Nat.zero_le _, by have h0 : (x 0).val < 128 := (x 0).isLt; show (x 0).val < 0 + 128; omega⟩
    | ⟨1, _⟩ => exact h

theorem out_disjoint (p p' : Fin 4 × Bool) (h : p ≠ p') : Disjoint (outElems p) (outElems p') := by
  rw [Finset.disjoint_left]
  intro x hx hx'
  rw [outRect_mem] at hx hx'
  obtain ⟨j, d⟩ := p
  obtain ⟨j', d'⟩ := p'
  have := j.isLt; have := j'.isLt
  refine h (Prod.ext (Fin.ext ?_) ?_) <;> cases d <;> cases d' <;> simp only [colBase] at hx hx' ⊢ <;> omega

/-- The direction and the column block of a column of the result. -/
def dirOf (x : S128x2048.Idx) : Bool := decide ((x 1).val < 1024)
def blockOf (x : S128x2048.Idx) : Fin 4 := ⟨(x 1).val % 1024 / 256, by omega⟩
/-- A place within a column block. -/
def within (x : S128x2048.Idx) : S128x256.Idx := fun a => match a with
  | ⟨0, _⟩ => ⟨(x 0).val, (x 0).isLt⟩
  | ⟨1, _⟩ => ⟨(x 1).val % 256, Nat.mod_lt _ (by decide)⟩

theorem out_cover : Finset.univ.biUnion outElems = Finset.univ := by
  ext x
  simp only [Finset.mem_biUnion, Finset.mem_univ, true_and, iff_true]
  have hx : (x 1).val < 2048 := (x 1).isLt
  refine ⟨(blockOf x, dirOf x), (outRect_mem _ _).mpr ?_⟩
  unfold dirOf blockOf
  by_cases h : (x 1).val < 1024
  · rw [decide_eq_true h]; simp only [colBase]; omega
  · rw [decide_eq_false h]; simp only [colBase]; omega

/-- What device `c`'s result ends as. -/
def outC : FVec F S128x2048 .f32 := fun x => res X Wt c (dirOf x) (blockOf x) (within x)

/-- On its own part, the result is that part's block. -/
theorem outC_at (d : Bool) (j : Fin 4) (y : S128x256.Idx) (x : S128x2048.Idx) (h0 : (x 0).val = (y 0).val)
    (h1 : (x 1).val = colBase d + 256 * j.val + (y 1).val) : outC X Wt c x = res X Wt c d j y := by
  have hy : (y 1).val < 256 := (y 1).isLt
  have hj := j.isLt
  have hd : dirOf x = d := by
    unfold dirOf
    cases d <;> simp only [colBase] at h1 <;> simp <;> omega
  have hb : blockOf x = j := Fin.ext (by
    show (x 1).val % 1024 / 256 = j.val
    cases d <;> simp only [colBase] at h1 <;> omega)
  have hw : within x = y := funext fun a => Fin.ext (match a with
    | ⟨0, _⟩ => h0
    | ⟨1, _⟩ => by
      show (x 1).val % 256 = (y 1).val
      cases d <;> simp only [colBase] at h1 <;> omega)
  unfold outC
  rw [hd, hb, hw]

/-- A part at its block is that part of the whole result. -/
theorem outPts_eq (jd : Fin 4 × Bool) :
    outPts c jd.2 jd.1 (res X Wt c jd.2 jd.1)
      = (oM.view.loc (c : Thread nD τ) ↦[outElems jd]{fullShare} outC X Wt c : sProp 𝕄) := by
  unfold outPts
  refine pointsTo_congr (fun i hi => ?_)
  obtain ⟨y, -, rfl⟩ := Finset.mem_map.mp hi
  rw [View.rep_emb]
  refine (outC_at X Wt c jd.2 jd.1 y _ ?_ ?_).symm
  · show 0 + 1 * (y 0).val = _; omega
  · show colBase jd.2 + 256 * jd.1.val + 1 * (y 1).val = _; omega

/-- The array cut into its parts, -/
theorem out_split (f : Buf (Elt F) (oM.view.loc (c : Thread nD τ))) :
    (oM.view.loc (c : Thread nD τ) ↦{fullShare} f : sProp 𝕄) ⊢ bigSep Finset.univ fun jd : Fin 4 × Bool => outAny c jd.2 jd.1 := by
  rw [Ring.pointsTo_blocks (Ix := Unit) (Val := Elt F) (Name := ℕ) (U := UU) (Lvl := ℕ) (ℓ := oM.view.loc (c : Thread nD τ)) outElems
    out_disjoint out_cover f]
  have h : ∀ jd : Fin 4 × Bool, (oM.view.loc (c : Thread nD τ) ↦[outElems jd]{fullShare} f : sProp 𝕄) ⊢ outAny c jd.2 jd.1 := fun jd => by
    unfold outAny
    iintro H; iexists f; iexact H
  exact bigSep_mono fun jd _ => h jd
/-- and put together again. -/
theorem out_join :
    (bigSep Finset.univ fun jd : Fin 4 × Bool => outPts c jd.2 jd.1 (res X Wt c jd.2 jd.1))
      ⊢ (oM.view.loc (c : Thread nD τ) ↦{fullShare} outC X Wt c : sProp 𝕄) := by
  rw [Ring.pointsTo_blocks (Ix := Unit) (Val := Elt F) (Name := ℕ) (U := UU) (Lvl := ℕ) (ℓ := oM.view.loc (c : Thread nD τ)) outElems
    out_disjoint out_cover (outC X Wt c)]
  exact bigSep_mono fun jd _ => BIBase.Entails.of_eq (outPts_eq X Wt c jd)

/-! ## The whole body -/

variable (K : Dev nD × Option Key → ℕ)

/-- The tokens of a copy not yet started. -/
def toks (p : Copy) : sProp 𝕄 :=
  iprop(dutyTok ER (sendCell c p) 0 true ∗ dutyTok ER (recvCell (nbr c p.1) p) 0 true ∗ atPos ER (sendCell c p) 0 ∅ 0)

/-- With the neighbours' landing slots they are all the copies not yet started. -/
theorem unsent_all :
    iprop((bigSep Finset.univ fun p : Copy => toks (F := F) c p) ∗ landing (nbr c true) true ∗ landing (nbr c false) false) ⊢ sending (F := F) c 0 := by
  have e : iprop(landing (nbr c true) true ∗ landing (nbr c false) false)
      = (bigSep Finset.univ fun p : Copy => iprop(∃ v, slotPts (nbr c p.1) p.1 p.2.1.succ p.2.2 v) : sProp 𝕄) := by
    rw [bigSep_univ_prod, bigSep_univ_eq_bigSepL [true, false] (by decide) (by decide)]
    rfl
  rw [e, ← bigSep_sep', show sending (F := F) c 0 = _ from prog_zero _ _, ← by_step]
  have h : ∀ p : Copy, iprop(toks (F := F) c p ∗ ∃ v, slotPts (nbr c p.1) p.1 p.2.1.succ p.2.2 v) ⊢ unsent c p := fun p => by
    unfold toks unsent
    iintro ⟨⟨H1, H2, H3⟩, H4⟩
    isplitl [H1]; · iexact H1
    isplitl [H2]; · iexact H2
    isplitl [H3]; · iexact H3
    iexact H4
  exact bigSep_mono fun p _ => h p

/-- The slots that come back, and the last ones, are the two communication buffers. -/
theorem comm_back (d : Bool) :
    iprop((bigSep Finset.univ fun q : Fin 15 × Fin 4 => iprop(∃ v, slotPts c d q.1.castSucc q.2 v))
        ∗ bigSep Finset.univ fun j : Fin 4 => iprop(∃ v, slotPts c d 15 j v))
      ⊢ (iprop(∃ f, (comm d).view.loc (c : Thread nD τ) ↦[(comm d).view.set]{fullShare} f) : sProp 𝕄) := by
  have h := comm_join (F := F) c d
  rw [bigSep_univ_prod, bigSep_tail] at h
  rw [bigSep_univ_prod]
  iintro ⟨H1, H2⟩
  iapply h
  isplitl [H2]
  · iexact H2
  iexact H1

end Cert.KernelIdeal.Flow

end
-- ==== Proof.KernelIdeal.Body.lean ====
/-
# The body

The body from what a device is dealt at launch to what it ends with, and that as the body obligation of the call.
-/
module

public import proofs.«01_k».proof.Proof.KernelIdeal.Out
public import proofs.«01_k».proof.Proof.Gen.KernelIdeal.Frame

@[expose] public section

noncomputable section

namespace Cert.KernelIdeal.Flow

open Cert.KernelIdeal Cert.KernelIdeal.Gen
open Idealize.ShloMosaic Idealize.ShloMosaic.TcCoe Idealize.ShloMosaic.Rounds Idealize.ShloMosaic.Pipeline
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

section
variable (X : Dev nD → Vec F S2048x128 .bf16) (Wt : Dev nD → Vec F S128x2048 .bf16) (K : Dev nD × Option Key → ℕ) (c : Dev nD)

/-- What a device is dealt besides the records: its place at every cell of its own and the duties it will pay, -/
def linear : sProp 𝕄 :=
  iprop(atPos ER (barCell c) 0 ∅ 0 ∗ dutyTok ER (barCell (nbr c false)) 0 true ∗ dutyTok ER (barCell (nbr c true)) 0 false
    ∗ (bigSep Finset.univ fun p : Copy => toks c p) ∗ bigSep Finset.univ fun p : Copy => atPos ER (recvCell c p) 0 ∅ 0)
/-- and the right to wait for two units at its barrier and for a block at every receive cell. -/
def credits : sProp 𝕄 :=
  iprop(cred (tallyAt (barCell c) () 2) ∗ bigSep Finset.univ fun p : Copy => cred (tallyAt (recvCell c p) () N))
/-- The two communication buffers, holding anything. -/
def comms : sProp 𝕄 :=
  iprop((∃ f, (comm true).view.loc (c : Thread nD τ) ↦[(comm true).view.set]{fullShare} f)
    ∗ ∃ f, (comm false).view.loc (c : Thread nD τ) ↦[(comm false).view.set]{fullShare} f)
/-- Every semaphore of the copies at zero. -/
def closed : sProp 𝕄 :=
  iprop((bigSep Finset.univ fun p : Copy => semVal (sendCell c p) 0) ∗ bigSep Finset.univ fun p : Copy => semVal (recvCell c p) 0)

theorem unrecv_all :
    iprop((bigSep Finset.univ fun p : Copy => cred (tallyAt (recvCell c p) () N)) ∗ bigSep Finset.univ fun p : Copy => atPos ER (recvCell c p) 0 ∅ 0)
      ⊢ receiving (F := F) c 0 := by
  rw [← bigSep_sep', show receiving (F := F) c 0 = _ from prog_zero _ _, ← by_step]
  exact BI.Entails.refl _

theorem back_all : reading (F := F) c 15 ⊢ iprop((bigSep Finset.univ fun p : Copy => semVal (sendCell c p) 0)
    ∗ (bigSep Finset.univ fun q : Fin 15 × Fin 4 => iprop(∃ v, slotPts c true q.1.castSucc q.2 v))
    ∗ bigSep Finset.univ fun q : Fin 15 × Fin 4 => iprop(∃ v, slotPts c false q.1.castSucc q.2 v)) := by
  have e : (bigSep Finset.univ fun p : Copy => iprop(∃ v, slotPts c p.1 p.2.1.castSucc p.2.2 v) : sProp 𝕄)
      = iprop((bigSep Finset.univ fun q : Fin 15 × Fin 4 => iprop(∃ v, slotPts c true q.1.castSucc q.2 v))
        ∗ bigSep Finset.univ fun q : Fin 15 × Fin 4 => iprop(∃ v, slotPts c false q.1.castSucc q.2 v)) := by
    rw [bigSep_univ_prod, bigSep_univ_eq_bigSepL [true, false] (by decide) (by decide)]
    rfl
  rw [show reading (F := F) c 15 = _ from prog_full _ _, ← by_step, ← e, ← bigSep_sep']
  exact BI.Entails.refl _

theorem last_slots : (bigSep Finset.univ fun jd : Fin 4 × Bool => iprop(∃ v, slotPts c jd.2 15 jd.1 v))
    ⊢ (iprop((bigSep Finset.univ fun j : Fin 4 => iprop(∃ v, slotPts c true 15 j v))
      ∗ bigSep Finset.univ fun j : Fin 4 => iprop(∃ v, slotPts c false 15 j v)) : sProp 𝕄) := by
  rw [bigSep_univ_prod, bigSep_congr (s := Finset.univ) (fun (j : Fin 4) _ => bigSep_univ_eq_bigSepL [true, false] (by decide) (by decide)
    (fun d : Bool => (iprop(∃ v, slotPts c d 15 j v) : sProp 𝕄)))]
  exact BIBase.Entails.of_eq (bigSep_sep' Finset.univ (fun j : Fin 4 => (iprop(∃ v, slotPts c true 15 j v) : sProp 𝕄))
    (fun j => iprop(∃ v, slotPts c false 15 j v)))

theorem firsts_all :
    iprop((bigSep Finset.univ fun j : Fin 4 => slotPts c true 0 j (acc X Wt true j 0 c))
      ∗ bigSep Finset.univ fun j : Fin 4 => slotPts c false 0 j (acc X Wt false j 0 c))
      ⊢ (bigSep Finset.univ fun jd : Fin 4 × Bool => slotPts c jd.2 0 jd.1 (acc X Wt jd.2 jd.1 0 c) : sProp 𝕄) := by
  rw [bigSep_univ_prod, bigSep_congr (s := Finset.univ) (fun (j : Fin 4) _ => bigSep_univ_eq_bigSepL [true, false] (by decide) (by decide)
    (fun d : Bool => (slotPts c d 0 j (acc X Wt d j 0 c) : sProp 𝕄)))]
  exact BIBase.Entails.of_eq (bigSep_sep' Finset.univ (fun j : Fin 4 => (slotPts c true 0 j (acc X Wt true j 0 c) : sProp 𝕄))
    (fun j => slotPts c false 0 j (acc X Wt false j 0 c))).symm

/-- The whole body: from what the device is dealt, its inputs, the communication buffers and the result array, to the inputs as they
    were, the result, and everything closed. -/
theorem does_body :
    Does X Wt K c body
      iprop(ins X Wt c ∗ (∃ f, oM.view.loc (c : Thread nD τ) ↦{fullShare} f) ∗ comms c ∗ linear c ∗ credits c
        ∗ ∃ W, owes (c : Thread nD τ) (owed₀ c) W)
      iprop(ins X Wt c ∗ (oM.view.loc (c : Thread nD τ) ↦{fullShare} outC X Wt c) ∗ comms c ∗ closed c ∗ semVal (barCell c) 0
        ∗ owing c 120) := fun Q => by
  unfold body
  simp only [Prog.lift, Prog.bind_op, Prog.bind_ret, wp_deviceId]
  unfold comms linear credits
  iintro ⟨#Hr, Hins, ⟨%g, Hout⟩, ⟨⟨%f₁, Hc1⟩, %f₂, Hc2⟩, ⟨HatB, Hb1, Hb2, Htoks, Hats⟩, ⟨HcB, Hcr⟩, HO⟩ HQ
  ihave H1 := (comm_split c true f₁) $$ Hc1
  icases H1 with ⟨Hf1, HL1⟩
  ihave H2 := (comm_split c false f₂) $$ Hc2
  icases H2 with ⟨Hf2, HL2⟩
  rw [wp_bind]
  iapply (does_handshake X Wt K c _) $$ [HatB Hb1 Hb2 HcB HL1 HL2 HO]
  · isplitr; · iexact Hr
    unfold shake
    isplitr [HO]
    · isplitl [Hb1]; · iexact Hb1
      isplitl [Hb2]; · iexact Hb2
      isplitl [HatB]; · iexact HatB
      isplitl [HcB]; · iexact HcB
      isplitl [HL1] <;> iassumption
    iexact HO
  iintro ⟨Hland, HzB, HO⟩
  ihave Hun := (unsent_all (F := F) c) $$ [Htoks Hland]
  · isplitl [Htoks] <;> iassumption
  ihave Hrv := (unrecv_all (F := F) c) $$ [Hcr Hats]
  · isplitl [Hcr] <;> iassumption
  rw [wp_bind]
  iapply (does_first X Wt K c true _) $$ [Hins Hf1]
  · isplitr; · iexact Hr
    isplitl [Hins] <;> iassumption
  iintro ⟨Hins, Hs1⟩
  rw [wp_bind]
  iapply (does_first X Wt K c false _) $$ [Hins Hf2]
  · isplitr; · iexact Hr
    isplitl [Hins] <;> iassumption
  iintro ⟨Hins, Hs2⟩
  ihave Hs := (firsts_all X Wt c) $$ [Hs1 Hs2]
  · isplitl [Hs1] <;> iassumption
  rw [wp_bind]
  iapply (does_sends X Wt K c _) $$ [Hs Hun HO]
  · isplitr; · iexact Hr
    isplitl [Hs]; · iexact Hs
    isplitl [Hun] <;> iassumption
  iintro ⟨Hun, HO⟩
  rw [wp_bind]
  iapply (does_upFrom (I := between X Wt c) (fun s => does_step X Wt K c s) 14 0 rfl _) $$ [Hins Hrv Hun HO]
  · isplitr; · iexact Hr
    unfold between
    isplitl [Hins]; · iexact Hins
    isplitl [Hrv]; · iexact Hrv
    isplitl [Hun]; · iexact Hun
    iexact HO
  unfold between
  iintro ⟨Hins, Hrv, Hun, HO⟩
  ihave Hout := (out_split (F := F) c g) $$ Hout
  rw [wp_bind]
  iapply (does_last X Wt K c _) $$ [Hins Hrv Hout HO]
  · isplitr; · iexact Hr
    isplitl [Hins]; · iexact Hins
    isplitl [Hrv]; · iexact Hrv
    isplitl [Hout] <;> iassumption
  iintro ⟨Hins, Hrv, ⟨Hlast, Hout⟩, HO⟩
  ihave Hout := (out_join X Wt c) $$ Hout
  ihave Hread := (show sending (F := F) c (14 + 1) ⊢ reading c 0 from
    BIBase.Entails.of_eq ((prog_full (atStep (unsent c)) (atStep (sent c))).trans (prog_zero (atStep (sent c)) (atStep (back c))).symm)) $$ Hun
  iapply (does_waits X Wt K c _) $$ [Hread HO]
  · isplitr; · iexact Hr
    isplitl [Hread] <;> iassumption
  iintro ⟨Hread, HO⟩
  ihave Hb := (back_all (F := F) c) $$ Hread
  icases Hb with ⟨HzS, Hb1, Hb2⟩
  ihave Hl := (last_slots (F := F) c) $$ Hlast
  icases Hl with ⟨Hl1, Hl2⟩
  iapply HQ
  isplitl [Hins]; · iexact Hins
  isplitl [Hout]; · iexact Hout
  isplitl [Hb1 Hb2 Hl1 Hl2]
  · isplitl [Hb1 Hl1]
    · iapply (comm_back c true)
      isplitl [Hb1] <;> iassumption
    · iapply (comm_back c false)
      isplitl [Hb2] <;> iassumption
  isplitl [HzS Hrv]
  · unfold closed
    isplitl [HzS]; · iexact HzS
    iapply (show receiving (F := F) c 15 ⊢ (bigSep Finset.univ fun p : Copy => semVal (recvCell c p) 0) from
      BIBase.Entails.of_eq ((prog_full (atStep (unrecv c)) (atStep (recvd c))).trans (by_step (recvd c)).symm))
    iexact Hrv
  isplitl [HzB]; · iexact HzB
  iexact HO

end

/-! ## The call's proof data -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The inputs as staged on device `c`. -/
def xs (c : Dev nD) : Vec F S2048x128 .bf16 := (win0_0.blk (0 : Fin 1)).view.read (Elt F) (m ((c : Thread nD τ).loc main_arg0))
def ws (c : Dev nD) : Vec F S128x2048 .bf16 := (win0_1.blk (0 : Fin 1)).view.read (Elt F) (m ((c : Thread nD τ).loc main_arg1))

/-- The cells' records, under the names `K`. -/
def marks (K : Dev nD × Option Key → ℕ) : sProp 𝕄 :=
  iprop((bigSep Finset.univ fun q : Dev nD × Option Key => cellInv ER (Rd (xs m) (ws m)) (K q) (kcell q.1 q.2))
    ∗ bigSep Finset.univ fun q : Dev nD × Option Key => reached ER (kcell q.1 q.2) 0)
instance marks_persistent (K : Dev nD × Option Key → ℕ) : BI.Persistent (marks m K) := by unfold marks; infer_instance

/-- What the global step deals device `c`. -/
def dealt (c : Dev nD) : sProp 𝕄 := iprop(∃ K, marks m K ∗ linear c)
/-- What device `c` starts its call from. -/
def start (c : Dev nD) : sProp 𝕄 := iprop(dealt m c ∗ credits c ∗ levAts L lv)

/-- Before the body and after it. -/
def Φ₀ (c : Dev nD) : sProp 𝕄 := iprop(start m c ∗ comms c)
def Φ₁ (c : Dev nD) : sProp 𝕄 := iprop(comms c ∗ closed c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => outC (xs m) (ws m) c
  Φ t := match t with
    | ⟨0, _⟩ => Φ₀ m c
    | ⟨_ + 1, _⟩ => Φ₁ c
  q _ := fullShare
  owed t := match t with
    | ⟨0, _⟩ => owed₀ c
    | ⟨_ + 1, _⟩ => 0

/-- A staging buffer held at given contents. -/
abbrev stg (c : Dev nD) (b : Ref sig .tc) (v : b.ty.Contents (Elt F)) : sProp 𝕄 :=
  iprop(∃ f : Buf (Elt F) ((c : Thread nD τ).loc b), ⌜f = v⌝ ∗ ((c : Thread nD τ).loc b) ↦{fullShare} f)
theorem owns_stg (c : Dev nD) (b : Ref sig .tc) (v : b.ty.Contents (Elt F)) :
    (owns (Ix := Unit) (Name := ℕ) (U := UU) (Lvl := ℕ) (c : Thread nD τ) (Memref.whole b) fullShare v : sProp 𝕄) = stg c b v := by
  unfold owns; simp only [Memref.view_whole, View.read_whole, View.set_whole]

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xs m c) ∗ stg c cc0_stg1_0 (ws m c)
    ∗ stg c cc0_stg2_0 (outC (xs m) (ws m) c))

theorem sound_body (c : Dev nD) :
    bodyPre m ρ c ⊢ wp frame (wpE (defs₀ (F := F)) 𝒱₀ (c : Thread nD τ) none) Set.univ (body (F := F)) (fun _ => bodyPost m ρ c) := by
  unfold bodyPre Φ₀ start dealt marks
  iintro ⟨⟨⟨⟨%K, ⟨#HI, #HR⟩, Hlin⟩, Hcr, #Hlev⟩, Hcom⟩, Ho, ⟨%d0, %g0, %hg0, Hx⟩, ⟨%d1, %g1, %hg1, Hw⟩, ⟨%d2, %g2, %hg2, Hout⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx
  subst hw
  unfold Dat.owesAt Pipeline.owesWithin
  icases Ho with ⟨%W, %hW, HO⟩
  rw [show (dats m ρ 0 c).owed t0_0.castSucc = owed₀ c from rfl]
  iapply (does_body (xs m) (ws m) K c _) $$ [Hlin Hcr Hcom Hx Hw Hout HO]
  · isplitr
    · unfold recs
      isplitr; · iexact HI
      isplitr; · iexact HR
      iexact Hlev
    isplitl [Hx Hw]
    · unfold ins
      isplitl [Hx]; · iexact Hx
      iexact Hw
    isplitl [Hout]; · iexists g2; iexact Hout
    isplitl [Hcom]; · iexact Hcom
    isplitl [Hlin]; · iexact Hlin
    isplitl [Hcr]; · iexact Hcr
    iexists W; iexact HO
  unfold ins owing
  rw [owedFrom_end]
  iintro ⟨⟨Hx, Hw⟩, Hout, Hcom, Hz, HzB, %W', HO⟩
  unfold bodyPost Φ₁ Dat.owesAt Pipeline.owesWithin
  rw [show (dats m ρ 0 c).owed t0_0.succ = 0 from rfl]
  isplitl [Hcom Hz HzB]
  · isplitl [Hcom]; · iexact Hcom
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 4000 in
/-- The body obligation of the call on device `c`. -/
theorem body_obligation (c : Dev nD) : BodyObligation (dats (F := F) m ρ 0 c) (defs₀ (F := F)) 𝒱₀ () Set.univ := fun t => by
  rw [show t = t0_0 from fin_N0 t, bigSep_W0, bigSep_W0]
  simp only [owns_stg]
  refine BIBase.Entails.trans (Q := bodyPre m ρ c) (BI.Entails.refl _) ?_
  rw [show defs₀ (F := F) Proc.tc 0 (t0_0, cfg0.slots t0_0) = body from body_eq]
  rw [show (dats m ρ 0 c).Φ t0_0.succ = Φ₁ c from rfl, show (dats m ρ 0 c).after 0 t0_0 = xs m c from rfl,
    show (dats m ρ 0 c).after 1 t0_0 = ws m c from rfl, show (dats m ρ 0 c).after 2 t0_0 = outC (xs m) (ws m) c from rfl]
  have h := sound_body m ρ c
  unfold bodyPost at h
  convert h using 2

end Cert.KernelIdeal.Flow

end
-- ==== Proof.KernelIdeal.Launch.lean ====
/-
# The launch

What the launch mints (one cell for the barrier and one for each semaphore of the copies, a token for each duty), how it is dealt
around the ring, the credit each device starts with, and the run.
-/
module

public import proofs.«01_k».proof.Proof.KernelIdeal.Body
public import Idealize.ShloMosaic.Lib.Pipeline.CollectiveSegs
public import Idealize.ShloMosaic.Lib.Pipeline.Value

@[expose] public section

noncomputable section

namespace Cert.KernelIdeal.Flow

open Cert.KernelIdeal Cert.KernelIdeal.Gen
open Idealize.ShloMosaic Idealize.ShloMosaic.TcCoe Idealize.ShloMosaic.Rounds Idealize.ShloMosaic.Pipeline
open Idealize.SL Idealize.SL.RA Idealize.SL.BI Idealize.SL.BI.BIBase Idealize.SL.BI.Laws Idealize.SL.ProofMode Idealize.SL.Sem
open scoped Idealize.SL.BI

variable {F : FTy → Type} [FloatOps F]

local notation "𝕄" => MT nD τ sig Unit (Elt F) ℕ UU ℕ

/-! ## Splitting over the keys -/

/-- Something for every element of an option type: for `none` and for every other. -/
theorem over_option {A : Type} [Fintype A] [DecidableEq A] (Φ : Option A → sProp 𝕄) :
    bigSep Finset.univ Φ = iprop(Φ none ∗ bigSep Finset.univ fun a => Φ (some a)) := by
  rw [bigSep_univ_at _ none, show (Finset.univ.erase (none : Option A)) = Finset.univ.map Function.Embedding.some from by
    ext o; cases o <;> simp, bigSep_map]
  rfl
/-- Something for every key: the receivers' and the senders'. -/
theorem over_key (Φ : Key → sProp 𝕄) :
    bigSep Finset.univ Φ = iprop((bigSep Finset.univ fun p : Copy => Φ (true, p)) ∗ bigSep Finset.univ fun p : Copy => Φ (false, p)) := by
  rw [bigSep_univ_prod, bigSep_univ_eq_bigSepL [true, false] (by decide) (by decide)]
  rfl

/-! ## The semaphores -/

theorem osem_scoped : ∀ k : Key, (osem k).isScoped .tc = true := by
  rintro ⟨_ | _, _ | _, s, j⟩ <;> revert s j <;> decide
/-- The staging semaphores are the first three. -/
theorem stage_number : ∀ (w : Fin 3) (s : Fin (spec0 w).nbuf), ((spec0 w).sem s).val < 3 := by decide
theorem osem_ne_stage (k : Key) (w : Fin 3) (s : Fin (spec0 w).nbuf) : osem k ≠ .dma ((spec0 w).sem s) := fun h => by
  rw [osem_number] at h
  have := congrArg Fin.val (SemLoc.dma.inj h)
  have h3 := stage_number w s
  simp only at this
  omega
theorem stage_kind (w : Fin 3) (s : Fin (spec0 w).nbuf) : kindOf (.dma ((spec0 w).sem s)) = none := by
  cases h : kindOf (.dma ((spec0 w).sem s)) with
  | none => rfl
  | some o =>
    have h' := kindOf_eq_some h
    cases o with
    | none => exact absurd h' (fun h => by cases h)
    | some k => exact absurd h' (osem_ne_stage k w s)

theorem ownSemFacts : Pipeline.OwnSemFacts cfg0.spec osem := ⟨osem_scoped, osem_inj, osem_ne_stage⟩

theorem ownSems0_eq (c : Dev nD) : (Pipeline.ownSems0 (Ix := Unit) (Name := ℕ) (U := UU) (Lvl := ℕ) (Val := Elt F) (τ := τ) osem c : sProp 𝕄)
    = iprop((bigSep Finset.univ fun p : Copy => semVal (recvCell c p) 0) ∗ bigSep Finset.univ fun p : Copy => semVal (sendCell c p) 0) := by
  unfold Pipeline.ownSems0; exact over_key _

theorem unscoped_only : (Finset.univ.filter fun sm : SemLoc sig => ¬ sm.isScoped .tc) = [SemLoc.reg barS].toFinset := by decide +kernel
theorem unscopedSems0_eq (c : Dev nD) : (unscopedSems0 c : sProp 𝕄) = semVal (barCell c) 0 := by
  unfold unscopedSems0; rw [bigSep_eq_bigSepL_of_eq [SemLoc.reg barS] unscoped_only (by decide)]; rfl

/-- All of them at zero, by key. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option Key => semVal (kcell c k) 0 : sProp 𝕄) := by
  rw [over_option, unscopedSems0_eq]
  unfold Pipeline.ownSems0
  iintro ⟨H1, H2⟩
  isplitl [H2] <;> iassumption

/-! ## What is minted -/

theorem cell_inj : Function.Injective (fun q : Dev nD × Option Key => kcell q.1 q.2) := fun a b h =>
  Prod.ext (kcell_inj h).1 (kcell_inj h).2
def ringCells : Finset (GSem nD τ sig) := Finset.univ.map ⟨_, cell_inj⟩

/-- A duty's token: the barrier's `false` one (`none`), and the `true` one of every cell. -/
def tokAt : Dev nD × Option (Option Key) → GSem nD τ sig × ℕ × Bool
  | (c, none) => (barCell c, 0, false)
  | (c, some k) => (kcell c k, 0, true)
theorem tok_inj : Function.Injective tokAt := by
  rintro ⟨a, _ | k⟩ ⟨b, _ | l⟩ h
  · rw [(kcell_inj (congrArg Prod.fst h)).1]
  · exact absurd (congrArg (fun x => x.2.2) h) Bool.false_ne_true
  · exact absurd (congrArg (fun x => x.2.2) h).symm Bool.false_ne_true
  · have := kcell_inj (congrArg Prod.fst h)
    rw [this.1, this.2]
def ringToks : Finset (GSem nD τ sig × ℕ × Bool) := Finset.univ.map ⟨tokAt, tok_inj⟩

def u₀ : UU := (initOf (Pipeline.cells cfgs cellOf_inj) (Pipeline.launchToks cfgs cellOf_inj), initOf ringCells ringToks)

variable (m : (ℓ : Loc nD τ sig) → Buf (Elt F) ℓ) (ρ : Dev nD → PrngReg)

/-- The tokens of the duties at device `c`'s own cells. -/
def minted (c : Dev nD) : sProp 𝕄 := bigSep Finset.univ fun o : Option (Option Key) => dutyTok ER (tokAt (c, o)).1 (tokAt (c, o)).2.1 (tokAt (c, o)).2.2
/-- The places at them. -/
def places (c : Dev nD) : sProp 𝕄 := bigSep Finset.univ fun k : Option Key => atPos ER (kcell c k) 0 ∅ 0

/-- What the launch element deals device `c`. -/
def G (c : Dev nD) : sProp 𝕄 :=
  iprop((bigSep Finset.univ fun k : Option Key => roundState ER (Rd (xs m) (ws m)) (kcell c k) 0)
    ∗ places c ∗ (bigSep Finset.univ fun k : Option Key => reached ER (kcell c k) 0) ∗ minted c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option Key => Φ (kcell c k) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (Rd (xs m) (ws m)) ringCells ringToks) $$ HX with ⟨Hst, Hr, Hat, Htok⟩
  imodintro
  ihave Hst' := (BIBase.Entails.of_eq (hX fun g => roundState ER (Rd (xs m) (ws m)) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G places; simp only [bigSep_sep']
  isplitl [Hst']; · iexact Hst'
  isplitl [Hat']; · iexact Hat'
  isplitl [Hr']; · iexact Hr'
  iexact Htok'

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option Key => iprop(∃ κ : ℕ, cellInv ER (Rd (xs m) (ws m)) κ (kcell c k)))
          ∗ places c ∗ (bigSep Finset.univ fun k : Option Key => reached ER (kcell c k) 0) ∗ minted c) := by
  unfold G
  iintro ⟨Hos, Hus, Hst, Hat, Hr, Htok⟩
  ihave Hv := (sems0_eq (F := F) c) $$ [Hos Hus]
  · isplitl [Hos] <;> iassumption
  imod (show iprop((bigSep Finset.univ fun k : Option Key => semVal (kcell c k) 0)
        ∗ bigSep Finset.univ fun k : Option Key => roundState ER (Rd (xs m) (ws m)) (kcell c k) 0)
      ⊢ (|={Set.univ}=> bigSep Finset.univ fun k => iprop(∃ κ : ℕ, cellInv ER (Rd (xs m) (ws m)) κ (kcell c k)) : sProp 𝕄) from by
        rw [← bigSep_sep']
        exact BIBase.Entails.trans (bigSep_mono fun k _ => BIBase.Entails.trans (Rounds.body_intro ER (Rd (xs m) (ws m)) (kcell c k)) inv_alloc)
          (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-! ## Dealing -/

/-- What device `c` pays: the barrier duties of its two neighbours, and for each copy its own send cell's and the receiver's. -/
def pays (c : Dev nD) : sProp 𝕄 :=
  iprop(dutyTok ER (barCell (nbr c true)) 0 false ∗ dutyTok ER (barCell (nbr c false)) 0 true
    ∗ (bigSep Finset.univ fun p : Copy => dutyTok ER (recvCell (nbr c p.1) p) 0 true) ∗ bigSep Finset.univ fun p : Copy => dutyTok ER (sendCell c p) 0 true)

theorem minted_eq (c : Dev nD) : (minted c : sProp 𝕄) = iprop(dutyTok ER (barCell c) 0 false ∗ dutyTok ER (barCell c) 0 true
    ∗ (bigSep Finset.univ fun p : Copy => dutyTok ER (recvCell c p) 0 true) ∗ bigSep Finset.univ fun p : Copy => dutyTok ER (sendCell c p) 0 true) := by
  unfold minted
  rw [over_option, over_option, over_key]
  rfl
theorem places_eq (c : Dev nD) : (places c : sProp 𝕄) = iprop(atPos ER (barCell c) 0 ∅ 0
    ∗ (bigSep Finset.univ fun p : Copy => atPos ER (recvCell c p) 0 ∅ 0) ∗ bigSep Finset.univ fun p : Copy => atPos ER (sendCell c p) 0 ∅ 0) := by
  unfold places
  rw [over_option, over_key]

/-- Every token goes to the device that pays its duty. -/
theorem deal_round : (bigSep Finset.univ fun c : Dev nD => (minted c : sProp 𝕄)) = bigSep Finset.univ fun c : Dev nD => pays c := by
  rw [bigSep_congr (s := Finset.univ) fun (c : Dev nD) _ => minted_eq (F := F) c]
  unfold pays
  rw [bigSep_sep', bigSep_sep', bigSep_sep', bigSep_sep', bigSep_sep', bigSep_sep',
    bigSep_univ_equiv (ring true) (fun c : Dev nD => (dutyTok ER (barCell c) 0 false : sProp 𝕄)),
    bigSep_univ_equiv (ring false) (fun c : Dev nD => (dutyTok ER (barCell c) 0 true : sProp 𝕄)),
    BI.bigSep_univ_comm (fun (c : Dev nD) (p : Copy) => (dutyTok ER (recvCell c p) 0 true : sProp 𝕄)),
    bigSep_congr (s := Finset.univ) (fun (p : Copy) _ => bigSep_univ_equiv (ring p.1) (fun c : Dev nD => (dutyTok ER (recvCell c p) 0 true : sProp 𝕄))),
    BI.bigSep_univ_comm (fun (p : Copy) (c : Dev nD) => (dutyTok ER (recvCell (ring p.1 c) p) 0 true : sProp 𝕄))]
  rfl

/-- Places and tokens make a device's share. -/
theorem linear_intro (c : Dev nD) : iprop(places c ∗ pays c) ⊢ (linear c : sProp 𝕄) := by
  rw [places_eq]
  unfold pays linear toks
  rw [bigSep_sep', bigSep_sep']
  iintro ⟨⟨H1, H2, H3⟩, H4, H5, H6, H7⟩
  isplitl [H1]; · iexact H1
  isplitl [H5]; · iexact H5
  isplitl [H4]; · iexact H4
  isplitr [H2]
  · isplitl [H7]; · iexact H7
    isplitl [H6] <;> iassumption
  iexact H2

theorem dealt_intro (K : Dev nD × Option Key → ℕ) (c : Dev nD) : iprop(marks m K ∗ linear c) ⊢ dealt m c := by
  unfold dealt
  iintro ⟨H1, H2⟩
  iexists K
  isplitl [H1] <;> iassumption

/-- A persistent fact goes to everyone. -/
theorem to_everyone {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem regroup :
    (bigSep Finset.univ fun c : Dev nD => iprop((bigSep Finset.univ fun k : Option Key => iprop(∃ κ : ℕ, cellInv ER (Rd (xs m) (ws m)) κ (kcell c k)))
          ∗ places c ∗ (bigSep Finset.univ fun k : Option Key => reached ER (kcell c k) 0) ∗ minted c) : sProp 𝕄)
      ⊢ bigSep Finset.univ (dealt m) := by
  rw [bigSep_sep', bigSep_sep', bigSep_sep', deal_round,
    ← bigSep_univ_prod (fun q : Dev nD × Option Key => iprop(∃ κ : ℕ, cellInv ER (Rd (xs m) (ws m)) κ (kcell q.1 q.2))),
    ← bigSep_univ_prod (fun q : Dev nD × Option Key => (reached ER (kcell q.1 q.2) 0 : sProp 𝕄))]
  iintro ⟨HI, Hat, #HR, Htok⟩
  ihave HK := (BI.bigSep_exists_pi Finset.univ (fun (q : Dev nD × Option Key) (κ : ℕ) => (cellInv ER (Rd (xs m) (ws m)) κ (kcell q.1 q.2) : sProp 𝕄))) $$ HI
  icases HK with ⟨%K, #HI⟩
  iapply (to_everyone (R := marks m K) (Φ := fun c => linear c) fun c _ => dealt_intro m K c)
  isplitr
  · unfold marks; isplitl; · iexact HI
    iexact HR
  · iapply (BIBase.Entails.trans (BIBase.Entails.of_eq (bigSep_sep' Finset.univ (fun c : Dev nD => (places c : sProp 𝕄)) pays).symm)
      (bigSep_mono fun c _ => linear_intro (F := F) c))
    isplitl [Hat] <;> iassumption

/-- All the devices' semaphores at once become the cells' invariants, and the rest is dealt. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (dealt m) :=
  BIBase.Entails.trans (BIBase.Entails.trans (bigSep_mono fun c _ => core_alloc m c) (bigSep_fupd _ _)) (BI.fupd_mono (regroup m))

/-! ## The launch credit -/

/-- All the copies' dues, by copy instead of by place in the program. -/
theorem owedFrom_all (d : Dev nD) : owedFrom d 0 = ∑ p : Copy, tallyAt (recvCell (nbr d p.1) p) () N := by
  unfold owedFrom
  refine Finset.sum_bij' (fun v _ => copyAt v) (fun p _ => 8 * p.2.1.val + place p.2.2 p.1) (fun _ _ => Finset.mem_univ _) (fun p _ => ?_)
    (fun v hv => ?_) (fun p _ => copyAt_place p.2.1 p.2.2 p.1) (fun _ _ => rfl)
  · have h1 := p.2.1.isLt; have h2 := p.2.2.isLt
    have h3 : place p.2.2 p.1 < 8 := by unfold place; split <;> omega
    exact Finset.mem_Ico.mpr ⟨Nat.zero_le _, by omega⟩
  · have hv := (Finset.mem_Ico.mp hv).2
    show 8 * (v / 8 % 15) + (2 * (v % 8 / 2 % 4) + if (v % 2 == 0) = true then 0 else 1) = v
    by_cases h : v % 2 = 0
    · rw [if_pos (by simpa using h)]; omega
    · rw [if_neg (by simpa using h)]; omega

/-- A due at one cell, looked up at another. -/
theorem tally_key (a b : Dev nD) (k l : Option Key) (n : ℕ) :
    (tallyAt (kcell a k) () n : CellTallies nD τ sig Unit) (kcell b l) () = if a = b ∧ k = l then n else 0 := by
  rw [tallyAt_apply]
  by_cases h : a = b ∧ k = l
  · rw [if_pos h, h.1, h.2, if_pos ⟨rfl, rfl⟩]
  · rw [if_neg h, if_neg fun h' => h ⟨(kcell_inj h'.1).1.symm, (kcell_inj h'.1).2.symm⟩]

/-- What device `d` owes a cell. -/
theorem owed_bar (d c : Dev nD) : owed₀ d (barCell c) () = (if nbr d true = c then 1 else 0) + if nbr d false = c then 1 else 0 := by
  unfold owed₀ owed₁
  rw [owedFrom_all, Pi.add_apply, Finsupp.add_apply, Pi.add_apply, Finsupp.add_apply, Finset.sum_apply, Finsupp.finsetSum_apply,
    Finset.sum_eq_zero fun p _ => (tally_key _ _ _ _ _).trans (if_neg fun h => by cases h.2), tally_key, tally_key, Nat.zero_add]
  simp only [and_true]
theorem owed_recv (d c : Dev nD) (p : Copy) : owed₀ d (recvCell c p) () = if nbr d p.1 = c then N else 0 := by
  unfold owed₀ owed₁
  rw [owedFrom_all, Pi.add_apply, Finsupp.add_apply, Pi.add_apply, Finsupp.add_apply, Finset.sum_apply, Finsupp.finsetSum_apply,
    tally_key, tally_key, if_neg (fun h => by cases h.2), if_neg (fun h => by cases h.2),
    Finset.sum_eq_single p (fun q _ hq => (tally_key _ _ _ _ _).trans (if_neg fun h => hq (Prod.mk.inj (Option.some.inj h.2)).2))
      (fun h => absurd (Finset.mem_univ _) h), tally_key]
  simp only [and_true, Nat.add_zero]

/-- Exactly one device has `c` for its neighbour in direction `e`. -/
theorem sum_nbr (c : Dev nD) (e : Bool) (n : ℕ) : (∑ d : Dev nD, if nbr d e = c then n else 0) = n := by
  rw [Fintype.sum_equiv (ring e) (fun d => if nbr d e = c then n else 0) (fun d => if d = c then n else 0) fun d => rfl, Finset.sum_ite_eq' Finset.univ c fun _ => n, if_pos (Finset.mem_univ _)]

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, sum_nbr, sum_nbr]
theorem launch_recv (c : Dev nD) (p : Copy) :
    tallyOn (recvCell c p) (launchCredit (Pipeline.owing owed₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, sum_nbr]

/-- The semaphores a device waits on for others. -/
def awaited : Option Copy ↪ SemLoc sig := ⟨fun o => ksem (o.map fun p => (true, p)), fun a b h => by
  have := ksem_inj h
  cases a <;> cases b
  · rfl
  · cases this
  · cases this
  · exact congrArg some (Prod.mk.inj (Option.some.inj this)).2⟩

theorem credits_intro (c : Dev nD) : (Pipeline.launchCred owed₀ c : sProp 𝕄) ⊢ credits c := by
  unfold Pipeline.launchCred credits
  refine BIBase.Entails.trans (bigSep_subset (t := Finset.univ.map awaited) (Finset.subset_univ _)) ?_
  rw [bigSep_map, over_option]
  refine BIBase.Entails.of_eq ?_
  congr 1
  · exact congrArg cred (launch_bar c)
  · exact bigSep_congr fun p _ => congrArg cred (launch_recv c p)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m c)
      ⊢ |={Set.univ}=> iprop(start m c ∗ emp) := by
  iintro ⟨-, Hlev, Hcr, -, HG⟩
  ihave Hc := (credits_intro (F := F) c) $$ Hcr
  imodintro
  unfold start
  isplitl
  · isplitl [HG]; · iexact HG
    isplitl [Hc]; · iexact Hc
    iexact Hlev
  · iempintro

/-- The communication buffers are the scratch buffers. -/
theorem comms_eq (c : Dev nD) : (comms c : sProp 𝕄) = Pipeline.scopedRest cfg0.spec c := by
  rw [scopedRest0_eq]
  unfold comms
  have e (d : Bool) : (comm d).view.set = Finset.univ := by cases d <;> exact View.set_whole _
  rw [e true, e false]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, ← comms_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, ← comms_eq, ownSems0_eq, unscopedSems0_eq]
  unfold Φ₁ closed
  iintro ⟨Hr, ⟨HzS, HzV⟩, HzB⟩
  isplitl [HzB]; · iexact HzB
  isplitl [HzS HzV]
  · isplitl [HzV] <;> iassumption
  iexact Hr

theorem mayWait_staging (c : Dev nD) (w : Fin 3) (s : Fin (spec0 w).nbuf) (t : Fin (cfg0.N + 1)) :
    (levAts L lv : sProp 𝕄) ⊢ MayWait (c : Thread nD τ) (.dma ((spec0 w).sem s)) () ((dats m ρ 0 c).owed t) := by
  rcases t with ⟨_ | _, ht⟩
  · exact mayWait_stage c _ (stage_kind w s)
  · show _ ⊢ MayWait (c : Thread nD τ) (.dma ((spec0 w).sem s)) () 0
    rw [MayWait_zero]
    iintro -; iempintro

theorem waits (c : Dev nD) : (levAts L lv : sProp 𝕄) ⊢ Pipeline.cellsWaits cfgs (dats m ρ) () 0 c :=
  Pipeline.cellsWaits_intro cfgs (dats m ρ) () 0 c fun w s t => mayWait_staging m ρ c w s t

theorem share_eq (c : Dev nD) (w : Fin cfg0.W) : (dats m ρ 0 c).share w = fullShare := by unfold Dat.share; split <;> rfl

/-! ## The run -/

/-- What array `w` of device `c` ends with. -/
def finalA (c : Dev nD) (w : Fin cfg0.W) : Buf (Elt F) ((cfg0.win w).arr.view.loc (c : Thread nD τ)) := (dats m ρ 0 c).arrAt w cfg0.N

set_option maxRecDepth 60000 in
/-- From any memory with all semaphores at zero, every weakly fair execution ends, each device's arrays at `finalA` and every
    semaphore at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

/-- The arguments are as they were, -/
theorem final_x (c : Dev nD) : finalA m ρ c (0 : Fin 3) = m ((c : Thread nD τ).loc main_arg0) := (dats (F := F) m ρ 0 c).arrAt_in (0 : Fin 3) rfl _
theorem final_w (c : Dev nD) : finalA m ρ c (1 : Fin 3) = m ((c : Thread nD τ).loc main_arg1) := (dats (F := F) m ρ 0 c).arrAt_in (1 : Fin 3) rfl _

/-- Each window has one block, the whole array. -/
theorem blk_x (t : Fin cfg0.N) (f : Vec F S2048x128 .bf16) : (win0_0.blk t).view.read (Elt F) f = f :=
  funext fun x => congrArg f (funext fun a => Fin.ext (by show 0 * _ + 1 * (x a).val = _; omega))
theorem blk_w (t : Fin cfg0.N) (f : Vec F S128x2048 .bf16) : (win0_1.blk t).view.read (Elt F) f = f :=
  funext fun x => congrArg f (funext fun a => Fin.ext (by show 0 * _ + 1 * (x a).val = _; omega))
theorem blk_out (t : Fin cfg0.N) (f : Vec F S128x2048 .f32) : (win0_2.blk t).view.read (Elt F) f = f :=
  funext fun x => congrArg f (funext fun a => Fin.ext (by show 0 * _ + 1 * (x a).val = _; omega))
theorem blk_out_set (t : Fin cfg0.N) : (win0_2.blk t).view.set = Finset.univ := by
  refine Finset.eq_univ_iff_forall.mpr fun x => ?_
  show x ∈ ((View.whole main_v1).slice (win0_2.rect t)).set
  rw [View.set_slice_whole, Rect.mem_set_unit]
  intro a
  show 0 * _ ≤ (x a).val ∧ (x a).val < 0 * _ + S128x2048.size a
  have : (x a).val < S128x2048.size a := (x a).isLt
  omega

/-- What is staged is the argument, -/
theorem xs_eq (c : Dev nD) : xs m c = m ((c : Thread nD τ).loc main_arg0) := blk_x _ _
theorem ws_eq (c : Dev nD) : ws m c = m ((c : Thread nD τ).loc main_arg1) := blk_w _ _

/-- and the result array ends with what the body leaves. -/
theorem final_out (c : Dev nD) : finalA m ρ c (2 : Fin 3) = outC (xs m) (ws m) c :=
  (dats (F := F) m ρ 0 c).arrAt_eq_of_cover (2 : Fin 3) (outC (xs m) (ws m) c) (fun t _ => (blk_out t _).symm)
    fun i => ⟨t0_0, flush0_2 _, by rw [show ((cfg0.win 2).blk t0_0).view.set = Finset.univ from blk_out_set t0_0]; exact Finset.mem_univ _⟩

/-- The run, by the names of the arrays. -/
theorem run_named : θ_run defs (onTc (τ := τ) (main (F := F))) ⟨m, fun _ => 0, ρ⟩ (fun r =>
    (∀ c : Dev nD, r.2.mem ((c.tc : Thread nD τ).loc main_v1)
        = outC (fun c => m ((c.tc : Thread nD τ).loc main_arg0)) (fun c => m ((c.tc : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c 2).trans (final_out m ρ c)).trans
      (congrArg₂ (fun X Wt => outC X Wt c) (funext (xs_eq m)) (funext (ws_eq m))), (h.1 c 0).trans (final_x m ρ c), (h.1 c 1).trans (final_w m ρ c)⟩, h.2⟩)
    (run_main m ρ)

end Cert.KernelIdeal.Flow

end
-- ==== Proof.KernelIdeal.Partial.lean ====
/-
# The partial sums over the extended reals

At the ideal values a rounding is the identity and a product of blocks is a sum, so what a device sends on is a sum of products
of the inputs. `term c r l` is device `c`'s share of row `r`, column `l` of the whole product: the sum over the 128 columns of
`x` it holds. This module reads the kernel's values as sums of these shares: the partial sum sent in step `k` is the sum of the
shares of `k + 1` devices (`acc_apply`), the result that of sixteen (`res_apply`), which are all devices (`res_eq_sum`).
-/
module

public import proofs.«01_k».proof.Proof.KernelIdeal.Out
public import Idealize.ShloMosaic.Lib.MatmulPlain

@[expose] public section

noncomputable section

namespace Cert.KernelIdeal.Flow

open Cert.KernelIdeal Cert.KernelIdeal.Gen
open Idealize.ShloMosaic Idealize.ShloMosaic.ValueIdx
open scoped BigOperators

variable (X : Dev nD → Vec Ideal S2048x128 .bf16) (Wt : Dev nD → Vec Ideal S128x2048 .bf16)

/-- Device `c`'s share of row `r`, column `l` of the product. -/
def term (c : Dev nD) (r l : Fin 2048) : EReal := ∑ κ : Fin 128, X c (ix2 r κ) * Wt c (ix2 κ l)

/-- A product of blocks, at a row and a column. -/
theorem prodF_apply (a : Vec Ideal S128x128 .bf16) (b : Vec Ideal S128x1024 .bf16) (r : Fin 128) (l : Fin 1024) :
    prodF a b (ix2 r l) = ∑ κ : Fin 128, a (ix2 r κ) * b (ix2 κ l) := by
  unfold prodF
  rw [shapeCast_self, shapeCast_self]
  refine (Ideal.matmul_plain_apply (M := 128) (K := 128) (N := 1024) none a b _ r l).trans ?_
  show Ideal.ofBits .f32 0x00000000#32 + _ = _
  rw [Ideal.ofBits_zero_f32, zero_add]

/-- The column of the result that column `l` of block `j` of a direction is. -/
def colOf (d : Bool) (j : Fin 4) (l : Fin 256) : Fin 2048 := ⟨colBase d + 256 * j.val + l.val, by cases d <;> simp only [colBase] <;> omega⟩

/-- A column block of an array, at a row and a column. -/
theorem cols_apply (j : Fin 4) (v : FVec Ideal S128x1024 .f32) (p : Fin 128) (l : Fin 256) :
    cols j v (ix2 p l) = v (ix2 p ⟨256 * j.val + l.val, by omega⟩) := by
  unfold cols
  refine congrArg v (funext fun a => Fin.ext ?_)
  match a with
  | ⟨0, _⟩ => show 0 + p.val = p.val; omega
  | ⟨1, _⟩ => rfl

/-- Rows of `x` from `128 * o` on, at a row and a column. -/
theorem xRead_apply (v : Vec Ideal S2048x128 .bf16) (off : Fin 2 → ℕ) (hoff : ∀ a, off a + S128x128.size a ≤ S2048x128.size a)
    (o : ℕ) (ho : off = ![128 * o, 0]) (p κ : Fin 128) (r : Fin 2048) (hr : r.val = 128 * o + p.val) :
    xM.view.readAt (Elt Ideal) (Rect.unit (s := S2048x128) off S128x128.size hoff).toLoadRect v (ix2 p κ) = v (ix2 r κ) := by
  subst ho
  refine congrArg v (funext fun a => Fin.ext ?_)
  match a with
  | ⟨0, _⟩ => show 128 * o + 1 * p.val = r.val; omega
  | ⟨1, _⟩ => show 0 + 1 * κ.val = κ.val; omega

/-- A half of `w`, at a row and a column. -/
theorem half_apply (c : Dev nD) (d : Bool) (j : Fin 4) (κ : Fin 128) (l : Fin 256) :
    half Wt c d (ix2 κ ⟨256 * j.val + l.val, by omega⟩) = Wt c (ix2 κ (colOf d j l)) := by
  refine congrArg (Wt c) (funext fun a => Fin.ext ?_)
  match a with
  | ⟨0, _⟩ => show 0 + 1 * κ.val = κ.val; omega
  | ⟨1, _⟩ => show colBase d + 1 * (256 * j.val + l.val) = colBase d + 256 * j.val + l.val; omega

/-- A column block of the product of some rows of device `c`'s `x`, those from `128 * o` on, with a half of its `w`. -/
theorem product_apply (c : Dev nD) (d : Bool) (j : Fin 4) (off : Fin 2 → ℕ) (hoff : ∀ a, off a + S128x128.size a ≤ S2048x128.size a)
    (o : ℕ) (ho : off = ![128 * o, 0]) (p : Fin 128) (l : Fin 256) (r : Fin 2048) (hr : r.val = 128 * o + p.val) :
    cols j (prodF (xM.view.readAt (Elt Ideal) (Rect.unit (s := S2048x128) off S128x128.size hoff).toLoadRect (X c)) (half Wt c d)) (ix2 p l)
      = term X Wt c r (colOf d j l) := by
  rw [cols_apply, prodF_apply]
  unfold term
  exact Finset.sum_congr rfl fun κ _ => by rw [xRead_apply (X c) off hoff o ho p κ r hr, half_apply Wt c d j κ l]

/-- The row block that device `c` multiplies as its `k`-th (from 0) in a direction. -/
def rowBlock (d : Bool) (k : ℕ) (c : Dev nD) : ℕ := (c.val + if d then 31 - k else k + 1) % 16

theorem rowBlock_lt (d : Bool) (k : ℕ) (c : Dev nD) : rowBlock d k c < 16 := Nat.mod_lt _ (by decide)

/-- Row `p` of block `o`. -/
def rowOf (o : ℕ) (h : o < 16) (p : Fin 128) : Fin 2048 := ⟨128 * o + p.val, by omega⟩

/-- A partial sum that arrives is of the row block the device then multiplies. -/
theorem rowBlock_succ (d : Bool) (k : ℕ) (hk : k < 15) (c : Dev nD) : rowBlock d k (nbr c (!d)) = rowBlock d (k + 1) c := by
  unfold rowBlock nbr
  cases d <;> simp <;> omega

theorem xOff₀_eq (c : Dev nD) : ∀ d, xOff₀ c d = ![128 * rowBlock d 0 c, 0]
  | true => (k0_off1_eq c).trans (by unfold rowBlock; simp only [if_true]; congr 2; omega)
  | false => (k0_off2_eq c).trans (by unfold rowBlock; simp)
theorem xOff_eq (c : Dev nD) (s : Fin 15) : ∀ d, xOff c s d = ![128 * rowBlock d (s.val + 1) c, 0]
  | true => (k0_off3_eq c s).trans (by unfold rowBlock; simp only [if_true]; congr 2; omega)
  | false => (k0_off4_eq c s).trans (by unfold rowBlock; simp only [Bool.false_eq_true, if_false]; congr 2)

/-- The device `i` steps back along a direction. -/
def behind (d : Bool) : ℕ → Dev nD → Dev nD
  | 0, c => c
  | i + 1, c => behind d i (nbr c (!d))

/-- The partial sum that device `c` sends on in step `k` is the sum of the shares of `k + 1` devices, from `c` back. -/
theorem acc_apply (d : Bool) (j : Fin 4) (p : Fin 128) (l : Fin 256) : ∀ (k : ℕ) (hk : k < 15) (c : Dev nD),
    acc X Wt d j k c (ix2 p l)
      = ∑ i ∈ Finset.range (k + 1), term X Wt (behind d i c) (rowOf (rowBlock d k c) (rowBlock_lt d k c) p) (colOf d j l)
  | 0, _, c => by
    rw [Finset.sum_range_one]
    exact product_apply X Wt c d j _ (xOff₀_inb c d) _ (xOff₀_eq c d) p l _ rfl
  | k + 1, hk, c => by
    rw [Finset.sum_range_succ', add_comm (Finset.sum _ _)]
    have e1 := product_apply X Wt c d j _ (xOff_inb c (Fin.ofNat 15 k) d) (rowBlock d (k + 1) c)
      ((xOff_eq c (Fin.ofNat 15 k) d).trans (by rw [show (Fin.ofNat 15 k).val = k from Nat.mod_eq_of_lt (by omega)])) p l
      (rowOf (rowBlock d (k + 1) c) (rowBlock_lt d (k + 1) c) p) rfl
    have e2 := acc_apply d j p l k (by omega) (nbr c (!d))
    have e3 : rowOf (rowBlock d k (nbr c (!d))) (rowBlock_lt d k (nbr c (!d))) p = rowOf (rowBlock d (k + 1) c) (rowBlock_lt d (k + 1) c) p :=
      Fin.ext (congrArg (fun o => 128 * o + p.val) (rowBlock_succ d k (by omega) c))
    rw [e3] at e2
    exact congrArg₂ (· + ·) e1 e2

/-- On the device where it ends every share is of the device's own row block. -/
theorem rowBlock_last (d : Bool) (c : Dev nD) : rowBlock d 15 c = c.val := by
  unfold rowBlock
  have := c.isLt
  cases d <;> simp <;> omega

/-- The block of the result that device `c` ends with is the sum of the shares of sixteen devices, from `c` back. -/
theorem res_apply (d : Bool) (j : Fin 4) (c : Dev nD) (p : Fin 128) (l : Fin 256) :
    res X Wt c d j (ix2 p l) = ∑ i ∈ Finset.range 16, term X Wt (behind d i c) (rowOf c.val c.isLt p) (colOf d j l) := by
  rw [Finset.sum_range_succ', add_comm (Finset.sum _ _)]
  have e1 := product_apply X Wt c d j _ (xOff_inb c 14 d) (rowBlock d 15 c) (xOff_eq c 14 d) p l (rowOf c.val c.isLt p)
    (congrArg (fun o => 128 * o + p.val) (rowBlock_last d c).symm)
  have e2 := acc_apply X Wt d j p l 14 (by decide) (nbr c (!d))
  have e3 : rowOf (rowBlock d 14 (nbr c (!d))) (rowBlock_lt d 14 (nbr c (!d))) p = rowOf c.val c.isLt p :=
    Fin.ext (congrArg (fun o => 128 * o + p.val) ((rowBlock_succ d 14 (by decide) c).trans (rowBlock_last d c)))
  rw [e3] at e2
  exact congrArg₂ (· + ·) e1 e2

/-- Sixteen devices, from any one back, are all of them. -/
theorem behind_bijective : ∀ (d : Bool) (c : Dev nD), Function.Bijective fun i : Fin 16 => behind d i.val c := by decide

/-- So the result is the sum of all devices' shares. -/
theorem res_eq_sum (d : Bool) (j : Fin 4) (c : Dev nD) (p : Fin 128) (l : Fin 256) :
    res X Wt c d j (ix2 p l) = ∑ c' : Dev nD, term X Wt c' (rowOf c.val c.isLt p) (colOf d j l) := by
  rw [res_apply, ← Fin.sum_univ_eq_sum_range (fun i => term X Wt (behind d i c) (rowOf c.val c.isLt p) (colOf d j l)) 16]
  exact (behind_bijective d c).sum_comp fun c' => term X Wt c' (rowOf c.val c.isLt p) (colOf d j l)

end Cert.KernelIdeal.Flow

end
-- ==== Proof.KernelIdeal.Value.lean ====
/-
# The result is the reference's

The reference multiplies the whole matrices. Device `c` holds columns `128 c`, …, `128 c + 127` of the first and the same rows of
the second, so the shares of the sixteen devices (`Partial.lean`) are the reference's sum cut into sixteen pieces (`sum_term`),
and the result of device `c` is rows `128 c`, …, `128 c + 127` of the reference's (`outC_eq`).
-/
module

public import proofs.«01_k».proof.Proof.KernelIdeal.Partial
public import proofs.«01_k».proof.Proof.Gen.ReferenceIdeal
public import Idealize.ShloMosaic.Lib.StackMember
public import Idealize.ShloMosaic.Lib.Layout

@[expose] public section

noncomputable section

namespace Cert.KernelIdeal.Flow

open Cert.KernelIdeal Cert.KernelIdeal.Gen
open Idealize.ShloMosaic Idealize.ShloMosaic.ValueIdx
open scoped BigOperators

/-- What the reference computes of the two matrices. -/
def refVal (A B : FVec Ideal Cert.ReferenceIdeal.S2048x2048 .bf16) : FVec Ideal Cert.ReferenceIdeal.S2048x2048 .f32 :=
  extf .f32 (truncf .bf16 (Host.dotGeneral Cert.ReferenceIdeal.dot_S2048x2048_S2048x2048_S2048x2048_1_0_0_1_n_n none A B)
    Cert.ReferenceIdeal.Facts₀.bitsLt_bf16_f32) Cert.ReferenceIdeal.Facts₀.bitsLt_bf16_f32

variable (A B : FVec Ideal Cert.ReferenceIdeal.S2048x2048 .bf16)

/-- At a row and a column it is the sum of products. -/
theorem refVal_apply (r l : Fin 2048) : refVal A B (ix2 r l) = ∑ κ : Fin 2048, A (ix2 r κ) * B (ix2 κ l) :=
  StackMember.dotGeneral_plain_apply (m := 2048) (k := 2048) (n := 2048) none A B r l

/-- The shares of all devices are that sum, sixteen pieces of 128. -/
theorem sum_term (r l : Fin 2048) :
    ∑ c : Dev nD, term (fun c => Layout.block S2048x128 Cert.ReferenceIdeal.S2048x2048 1 16 c A)
        (fun c => Layout.block S128x2048 Cert.ReferenceIdeal.S2048x2048 0 16 c B) c r l
      = ∑ κ : Fin 2048, A (ix2 r κ) * B (ix2 κ l) := by
  unfold term
  rw [← Fintype.sum_prod_type', ← (finProdFinEquiv (m := 16) (n := 128)).sum_comp fun κ : Fin 2048 => A (ix2 r κ) * B (ix2 κ l)]
  refine Finset.sum_congr rfl fun q _ => ?_
  refine congrArg₂ (· * ·) (congrArg A (funext fun a => Fin.ext ?_)) (congrArg B (funext fun a => Fin.ext ?_))
  · match a with
    | ⟨0, _⟩ => rfl
    | ⟨1, _⟩ => show q.1.val * 128 + q.2.val = q.2.val + 128 * q.1.val; omega
  · match a with
    | ⟨0, _⟩ => show q.1.val * 128 + q.2.val = q.2.val + 128 * q.1.val; omega
    | ⟨1, _⟩ => rfl

/-- Device `c`'s result is block `c` of the reference's. -/
theorem outC_eq (c : Dev nD) :
    outC (fun c => Layout.block S2048x128 Cert.ReferenceIdeal.S2048x2048 1 16 c A)
        (fun c => Layout.block S128x2048 Cert.ReferenceIdeal.S2048x2048 0 16 c B) c
      = Layout.block S128x2048 Cert.ReferenceIdeal.S2048x2048 0 16 c (refVal A B) := by
  funext x
  rw [Layout.block_apply]
  have hx : (x 1).val < 2048 := (x 1).isLt
  unfold outC
  have e : within x = ix2 (n0 := 128) (n1 := 256) (within x 0) (within x 1) := eq_ix2 (n0 := 128) (n1 := 256) (within x)
  rw [e]
  refine (res_eq_sum _ _ (dirOf x) (blockOf x) c (within x 0) (within x 1)).trans ((sum_term A B _ _).trans ((refVal_apply A B _ _).symm.trans ?_))
  refine congrArg (refVal A B) (funext fun a => Fin.ext ?_)
  match a with
  | ⟨0, _⟩ => show 128 * c.val + (x 0).val = c.val * 128 + (x 0).val; omega
  | ⟨1, _⟩ =>
    show colBase (dirOf x) + 256 * ((x 1).val % 1024 / 256) + (x 1).val % 256 = (x 1).val
    unfold dirOf
    by_cases h : (x 1).val < 1024
    · rw [decide_eq_true h]; simp only [colBase]; omega
    · rw [decide_eq_false h]; simp only [colBase]; omega

end Cert.KernelIdeal.Flow

end
-- ==== Proof.lean ====
/-
The proof of the certificate's claim. What a run does is in Proof/KernelIdeal/Launch.lean (and, word for word the same about the
program before idealization, in Proof/Kernel/Launch.lean); that its result is the reference's is in Proof/KernelIdeal/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments as they were, and every counter ends at zero. -/
theorem frame_kernel : Cert.quiescent_Kernel := fun m ρ _ =>
  (θ_run Cert.Kernel.defs _ _).mono (fun _ h => ⟨fun c => (h.1 c).2, h.2⟩) (Cert.Kernel.Flow.run_named (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Flow.run_named (F := Ideal) m ρ)

/-- The same of the reference, a host program with no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From arguments that are the blocks of the reference's, each device's result is its block of the reference's. -/
theorem algebraic : Cert.algebraic_KernelIdeal_ReferenceIdeal := by
  intro m ρ m' ρ' _ hagree
  let A := m' (((0 : Dev Cert.ReferenceIdeal.nD).tc : Thread _ Cert.ReferenceIdeal.τ).loc Cert.ReferenceIdeal.main_arg0)
  let B := m' (((0 : Dev Cert.ReferenceIdeal.nD).tc : Thread _ Cert.ReferenceIdeal.τ).loc Cert.ReferenceIdeal.main_arg1)
  refine ⟨Cert.KernelIdeal.Flow.refVal A B, ?_, ?_⟩
  · refine (θ_run Cert.KernelIdeal.defs _ _).mono (fun _ h c => ⟨(h.1 c).1.trans ?_, (h.1 c).2⟩)
      (Cert.KernelIdeal.Flow.run_named (F := Ideal) m ρ)
    have hX := funext fun c => (hagree c).1
    have hW := funext fun c => (hagree c).2
    exact (congrArg₂ (fun X W => Cert.KernelIdeal.Flow.outC (F := Ideal) X W c) hX hW).trans (Cert.KernelIdeal.Flow.outC_eq A B c)
  · exact (θ_run Cert.ReferenceIdeal.defs _ _).mono (fun _ h => h 0) (Cert.ReferenceIdeal.Value.run (F := Ideal) m' ρ')

/-- The claims together. No operation was rewritten, so there is nothing to show of the idealization. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
